-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![65536, 1024]⟩ 0 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 1024]⟩ ⟨2, ![65536, 1024]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S8x1024 : Shape := ⟨2, ![8, 1024]⟩
abbrev S1x1024 : Shape := ⟨2, ![1, 1024]⟩
abbrev S32x1x1024 : Shape := ⟨3, ![32, 1, 1024]⟩
abbrev S32 : Shape := ⟨1, ![32]⟩
abbrev S_ : Shape := ⟨0, ![]⟩
abbrev S256x1024 : Shape := ⟨2, ![256, 1024]⟩
abbrev S1024 : Shape := ⟨1, ![1024]⟩
abbrev S1 : Shape := ⟨1, ![1]⟩
abbrev S1x1x1024 : Shape := ⟨3, ![1, 1, 1024]⟩
abbrev S256x256 : Shape := ⟨2, ![256, 256]⟩

abbrev nBuf : Space → Nat
  | .hbm => 2
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .local _ .vmem, ⟨0, _⟩ => ⟨S2048x1024, .f32⟩
  | .local _ .vmem, ⟨1, _⟩ => ⟨S2048x1024, .f32⟩
  | .local _ .vmem, ⟨2, _⟩ => ⟨S8x1024, .f32⟩
  | .local _ .vmem, ⟨3, _⟩ => ⟨S1x1024, .f32⟩
  | .local _ .vmem, ⟨4, _⟩ => ⟨S32x1x1024, .f32⟩
  | .local _ .vmem, ⟨5, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 2 → Bool
  | ⟨0, _⟩ => true
  | ⟨1, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 2 66 bufScoped semScoped dmaSemScoped tileCredit tileCredit_eq_zero tileCredit_pos).withBarriers [(0, 1)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 1

abbrev nD : Nat := 32
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v70 : BitVec 1 := Scalar.cmpi .ne v2 c0_i32
  let v71 : BitVec 32 := Scalar.extui v70
  let c0_i32_32 : BitVec 32 := 0#32
  let v72 : BitVec 1 := Scalar.cmpi .ne v71 c0_i32_32
  v72

def k0_dev1 : Nat :=
  let c0_i32_450 : BitVec 32 := 0#32
  let c0_i32_448 : BitVec 32 := 0#32
  let c1_i32_449 : BitVec 32 := 1#32
  let v720 : BitVec 32 := Scalar.muli c0_i32_448 c1_i32_449
  let v721 : BitVec 32 := Scalar.addi c0_i32_450 v720
  v721.toNat
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_33 : BitVec 32 := 1#32
  let v73 : BitVec 1 := Scalar.cmpi .ne v2 c1_i32_33
  let v74 : BitVec 32 := Scalar.extui v73
  let c0_i32_34 : BitVec 32 := 0#32
  let v75 : BitVec 1 := Scalar.cmpi .ne v74 c0_i32_34
  v75

def k0_dev2 : Nat :=
  let c0_i32_450 : BitVec 32 := 0#32
  let c1_i32_448 : BitVec 32 := 1#32
  let c1_i32_449 : BitVec 32 := 1#32
  let v720 : BitVec 32 := Scalar.muli c1_i32_448 c1_i32_449
  let v721 : BitVec 32 := Scalar.addi c0_i32_450 v720
  v721.toNat
def k0_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v76 : BitVec 1 := Scalar.cmpi .ne v2 c2_i32
  let v77 : BitVec 32 := Scalar.extui v76
  let c0_i32_35 : BitVec 32 := 0#32
  let v78 : BitVec 1 := Scalar.cmpi .ne v77 c0_i32_35
  v78

def k0_dev3 : Nat :=
  let c0_i32_450 : BitVec 32 := 0#32
  let c2_i32_448 : BitVec 32 := 2#32
  let c1_i32_449 : BitVec 32 := 1#32
  let v720 : BitVec 32 := Scalar.muli c2_i32_448 c1_i32_449
  let v721 : BitVec 32 := Scalar.addi c0_i32_450 v720
  v721.toNat
def k0_cond4 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v79 : BitVec 1 := Scalar.cmpi .ne v2 c3_i32
  let v80 : BitVec 32 := Scalar.extui v79
  let c0_i32_36 : BitVec 32 := 0#32
  let v81 : BitVec 1 := Scalar.cmpi .ne v80 c0_i32_36
  v81

def k0_dev4 : Nat :=
  let c0_i32_450 : BitVec 32 := 0#32
  let c3_i32_448 : BitVec 32 := 3#32
  let c1_i32_449 : BitVec 32 := 1#32
  let v720 : BitVec 32 := Scalar.muli c3_i32_448 c1_i32_449
  let v721 : BitVec 32 := Scalar.addi c0_i32_450 v720
  v721.toNat
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v82 : BitVec 1 := Scalar.cmpi .ne v2 c4_i32
  let v83 : BitVec 32 := Scalar.extui v82
  let c0_i32_37 : BitVec 32 := 0#32
  let v84 : BitVec 1 := Scalar.cmpi .ne v83 c0_i32_37
  v84

def k0_dev5 : Nat :=
  let c0_i32_450 : BitVec 32 := 0#32
  let c4_i32_448 : BitVec 32 := 4#32
  let c1_i32_449 : BitVec 32 := 1#32
  let v720 : BitVec 32 := Scalar.muli c4_i32_448 c1_i32_449
  let v721 : BitVec 32 := Scalar.addi c0_i32_450 v720
  v721.toNat
def k0_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v85 : BitVec 1 := Scalar.cmpi .ne v2 c5_i32
  let v86 : BitVec 32 := Scalar.extui v85
  let c0_i32_38 : BitVec 32 := 0#32
  let v87 : BitVec 1 := Scalar.cmpi .ne v86 c0_i32_38
  v87

def k0_dev6 : Nat :=
  let c0_i32_450 : BitVec 32 := 0#32
  let c5_i32_448 : BitVec 32 := 5#32
  let c1_i32_449 : BitVec 32 := 1#32
  let v720 : BitVec 32 := Scalar.muli c5_i32_448 c1_i32_449
  let v721 : BitVec 32 := Scalar.addi c0_i32_450 v720
  v721.toNat
def k0_cond7 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v88 : BitVec 1 := Scalar.cmpi .ne v2 c6_i32
  let v89 : BitVec 32 := Scalar.extui v88
  let c0_i32_39 : BitVec 32 := 0#32
  let v90 : BitVec 1 := Scalar.cmpi .ne v89 c0_i32_39
  v90

def k0_dev7 : Nat :=
  let c0_i32_450 : BitVec 32 := 0#32
  let c6_i32_448 : BitVec 32 := 6#32
  let c1_i32_449 : BitVec 32 := 1#32
  let v720 : BitVec 32 := Scalar.muli c6_i32_448 c1_i32_449
  let v721 : BitVec 32 := Scalar.addi c0_i32_450 v720
  v721.toNat
def k0_cond8 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v91 : BitVec 1 := Scalar.cmpi .ne v2 c7_i32
  let v92 : BitVec 32 := Scalar.extui v91
  let c0_i32_40 : BitVec 32 := 0#32
  let v93 : BitVec 1 := Scalar.cmpi .ne v92 c0_i32_40
  v93

def k0_dev8 : Nat :=
  let c0_i32_450 : BitVec 32 := 0#32
  let c7_i32_448 : BitVec 32 := 7#32
  let c1_i32_449 : BitVec 32 := 1#32
  let v720 : BitVec 32 := Scalar.muli c7_i32_448 c1_i32_449
  let v721 : BitVec 32 := Scalar.addi c0_i32_450 v720
  v721.toNat
def k0_cond9 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v94 : BitVec 1 := Scalar.cmpi .ne v2 c8_i32
  let v95 : BitVec 32 := Scalar.extui v94
  let c0_i32_41 : BitVec 32 := 0#32
  let v96 : BitVec 1 := Scalar.cmpi .ne v95 c0_i32_41
  v96

def k0_dev9 : Nat :=
  let c0_i32_450 : BitVec 32 := 0#32
  let c8_i32_448 : BitVec 32 := 8#32
  let c1_i32_449 : BitVec 32 := 1#32
  let v720 : BitVec 32 := Scalar.muli c8_i32_448 c1_i32_449
  let v721 : BitVec 32 := Scalar.addi c0_i32_450 v720
  v721.toNat
def k0_cond10 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v97 : BitVec 1 := Scalar.cmpi .ne v2 c9_i32
  let v98 : BitVec 32 := Scalar.extui v97
  let c0_i32_42 : BitVec 32 := 0#32
  let v99 : BitVec 1 := Scalar.cmpi .ne v98 c0_i32_42
  v99

def k0_dev10 : Nat :=
  let c0_i32_450 : BitVec 32 := 0#32
  let c9_i32_448 : BitVec 32 := 9#32
  let c1_i32_449 : BitVec 32 := 1#32
  let v720 : BitVec 32 := Scalar.muli c9_i32_448 c1_i32_449
  let v721 : BitVec 32 := Scalar.addi c0_i32_450 v720
  v721.toNat
def k0_cond11 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v100 : BitVec 1 := Scalar.cmpi .ne v2 c10_i32
  let v101 : BitVec 32 := Scalar.extui v100
  let c0_i32_43 : BitVec 32 := 0#32
  let v102 : BitVec 1 := Scalar.cmpi .ne v101 c0_i32_43
  v102

def k0_dev11 : Nat :=
  let c0_i32_450 : BitVec 32 := 0#32
  let c10_i32_448 : BitVec 32 := 10#32
  let c1_i32_449 : BitVec 32 := 1#32
  let v720 : BitVec 32 := Scalar.muli c10_i32_448 c1_i32_449
  let v721 : BitVec 32 := Scalar.addi c0_i32_450 v720
  v721.toNat
def k0_cond12 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v103 : BitVec 1 := Scalar.cmpi .ne v2 c11_i32
  let v104 : BitVec 32 := Scalar.extui v103
  let c0_i32_44 : BitVec 32 := 0#32
  let v105 : BitVec 1 := Scalar.cmpi .ne v104 c0_i32_44
  v105

def k0_dev12 : Nat :=
  let c0_i32_450 : BitVec 32 := 0#32
  let c11_i32_448 : BitVec 32 := 11#32
  let c1_i32_449 : BitVec 32 := 1#32
  let v720 : BitVec 32 := Scalar.muli c11_i32_448 c1_i32_449
  let v721 : BitVec 32 := Scalar.addi c0_i32_450 v720
  v721.toNat
def k0_cond13 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v106 : BitVec 1 := Scalar.cmpi .ne v2 c12_i32
  let v107 : BitVec 32 := Scalar.extui v106
  let c0_i32_45 : BitVec 32 := 0#32
  let v108 : BitVec 1 := Scalar.cmpi .ne v107 c0_i32_45
  v108

def k0_dev13 : Nat :=
  let c0_i32_450 : BitVec 32 := 0#32
  let c12_i32_448 : BitVec 32 := 12#32
  let c1_i32_449 : BitVec 32 := 1#32
  let v720 : BitVec 32 := Scalar.muli c12_i32_448 c1_i32_449
  let v721 : BitVec 32 := Scalar.addi c0_i32_450 v720
  v721.toNat
def k0_cond14 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v109 : BitVec 1 := Scalar.cmpi .ne v2 c13_i32
  let v110 : BitVec 32 := Scalar.extui v109
  let c0_i32_46 : BitVec 32 := 0#32
  let v111 : BitVec 1 := Scalar.cmpi .ne v110 c0_i32_46
  v111

def k0_dev14 : Nat :=
  let c0_i32_450 : BitVec 32 := 0#32
  let c13_i32_448 : BitVec 32 := 13#32
  let c1_i32_449 : BitVec 32 := 1#32
  let v720 : BitVec 32 := Scalar.muli c13_i32_448 c1_i32_449
  let v721 : BitVec 32 := Scalar.addi c0_i32_450 v720
  v721.toNat
def k0_cond15 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v112 : BitVec 1 := Scalar.cmpi .ne v2 c14_i32
  let v113 : BitVec 32 := Scalar.extui v112
  let c0_i32_47 : BitVec 32 := 0#32
  let v114 : BitVec 1 := Scalar.cmpi .ne v113 c0_i32_47
  v114

def k0_dev15 : Nat :=
  let c0_i32_450 : BitVec 32 := 0#32
  let c14_i32_448 : BitVec 32 := 14#32
  let c1_i32_449 : BitVec 32 := 1#32
  let v720 : BitVec 32 := Scalar.muli c14_i32_448 c1_i32_449
  let v721 : BitVec 32 := Scalar.addi c0_i32_450 v720
  v721.toNat
def k0_cond16 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v115 : BitVec 1 := Scalar.cmpi .ne v2 c15_i32
  let v116 : BitVec 32 := Scalar.extui v115
  let c0_i32_48 : BitVec 32 := 0#32
  let v117 : BitVec 1 := Scalar.cmpi .ne v116 c0_i32_48
  v117

def k0_dev16 : Nat :=
  let c0_i32_450 : BitVec 32 := 0#32
  let c15_i32_448 : BitVec 32 := 15#32
  let c1_i32_449 : BitVec 32 := 1#32
  let v720 : BitVec 32 := Scalar.muli c15_i32_448 c1_i32_449
  let v721 : BitVec 32 := Scalar.addi c0_i32_450 v720
  v721.toNat
def k0_cond17 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v118 : BitVec 1 := Scalar.cmpi .ne v2 c16_i32
  let v119 : BitVec 32 := Scalar.extui v118
  let c0_i32_49 : BitVec 32 := 0#32
  let v120 : BitVec 1 := Scalar.cmpi .ne v119 c0_i32_49
  v120

def k0_dev17 : Nat :=
  let c0_i32_450 : BitVec 32 := 0#32
  let c16_i32_448 : BitVec 32 := 16#32
  let c1_i32_449 : BitVec 32 := 1#32
  let v720 : BitVec 32 := Scalar.muli c16_i32_448 c1_i32_449
  let v721 : BitVec 32 := Scalar.addi c0_i32_450 v720
  v721.toNat
def k0_cond18 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v121 : BitVec 1 := Scalar.cmpi .ne v2 c17_i32
  let v122 : BitVec 32 := Scalar.extui v121
  let c0_i32_50 : BitVec 32 := 0#32
  let v123 : BitVec 1 := Scalar.cmpi .ne v122 c0_i32_50
  v123

def k0_dev18 : Nat :=
  let c0_i32_450 : BitVec 32 := 0#32
  let c17_i32_448 : BitVec 32 := 17#32
  let c1_i32_449 : BitVec 32 := 1#32
  let v720 : BitVec 32 := Scalar.muli c17_i32_448 c1_i32_449
  let v721 : BitVec 32 := Scalar.addi c0_i32_450 v720
  v721.toNat
def k0_cond19 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v124 : BitVec 1 := Scalar.cmpi .ne v2 c18_i32
  let v125 : BitVec 32 := Scalar.extui v124
  let c0_i32_51 : BitVec 32 := 0#32
  let v126 : BitVec 1 := Scalar.cmpi .ne v125 c0_i32_51
  v126

def k0_dev19 : Nat :=
  let c0_i32_450 : BitVec 32 := 0#32
  let c18_i32_448 : BitVec 32 := 18#32
  let c1_i32_449 : BitVec 32 := 1#32
  let v720 : BitVec 32 := Scalar.muli c18_i32_448 c1_i32_449
  let v721 : BitVec 32 := Scalar.addi c0_i32_450 v720
  v721.toNat
def k0_cond20 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v127 : BitVec 1 := Scalar.cmpi .ne v2 c19_i32
  let v128 : BitVec 32 := Scalar.extui v127
  let c0_i32_52 : BitVec 32 := 0#32
  let v129 : BitVec 1 := Scalar.cmpi .ne v128 c0_i32_52
  v129

def k0_dev20 : Nat :=
  let c0_i32_450 : BitVec 32 := 0#32
  let c19_i32_448 : BitVec 32 := 19#32
  let c1_i32_449 : BitVec 32 := 1#32
  let v720 : BitVec 32 := Scalar.muli c19_i32_448 c1_i32_449
  let v721 : BitVec 32 := Scalar.addi c0_i32_450 v720
  v721.toNat
def k0_cond21 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v130 : BitVec 1 := Scalar.cmpi .ne v2 c20_i32
  let v131 : BitVec 32 := Scalar.extui v130
  let c0_i32_53 : BitVec 32 := 0#32
  let v132 : BitVec 1 := Scalar.cmpi .ne v131 c0_i32_53
  v132

def k0_dev21 : Nat :=
  let c0_i32_450 : BitVec 32 := 0#32
  let c20_i32_448 : BitVec 32 := 20#32
  let c1_i32_449 : BitVec 32 := 1#32
  let v720 : BitVec 32 := Scalar.muli c20_i32_448 c1_i32_449
  let v721 : BitVec 32 := Scalar.addi c0_i32_450 v720
  v721.toNat
def k0_cond22 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v133 : BitVec 1 := Scalar.cmpi .ne v2 c21_i32
  let v134 : BitVec 32 := Scalar.extui v133
  let c0_i32_54 : BitVec 32 := 0#32
  let v135 : BitVec 1 := Scalar.cmpi .ne v134 c0_i32_54
  v135

def k0_dev22 : Nat :=
  let c0_i32_450 : BitVec 32 := 0#32
  let c21_i32_448 : BitVec 32 := 21#32
  let c1_i32_449 : BitVec 32 := 1#32
  let v720 : BitVec 32 := Scalar.muli c21_i32_448 c1_i32_449
  let v721 : BitVec 32 := Scalar.addi c0_i32_450 v720
  v721.toNat
def k0_cond23 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v136 : BitVec 1 := Scalar.cmpi .ne v2 c22_i32
  let v137 : BitVec 32 := Scalar.extui v136
  let c0_i32_55 : BitVec 32 := 0#32
  let v138 : BitVec 1 := Scalar.cmpi .ne v137 c0_i32_55
  v138

def k0_dev23 : Nat :=
  let c0_i32_450 : BitVec 32 := 0#32
  let c22_i32_448 : BitVec 32 := 22#32
  let c1_i32_449 : BitVec 32 := 1#32
  let v720 : BitVec 32 := Scalar.muli c22_i32_448 c1_i32_449
  let v721 : BitVec 32 := Scalar.addi c0_i32_450 v720
  v721.toNat
def k0_cond24 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v139 : BitVec 1 := Scalar.cmpi .ne v2 c23_i32
  let v140 : BitVec 32 := Scalar.extui v139
  let c0_i32_56 : BitVec 32 := 0#32
  let v141 : BitVec 1 := Scalar.cmpi .ne v140 c0_i32_56
  v141

def k0_dev24 : Nat :=
  let c0_i32_450 : BitVec 32 := 0#32
  let c23_i32_448 : BitVec 32 := 23#32
  let c1_i32_449 : BitVec 32 := 1#32
  let v720 : BitVec 32 := Scalar.muli c23_i32_448 c1_i32_449
  let v721 : BitVec 32 := Scalar.addi c0_i32_450 v720
  v721.toNat
def k0_cond25 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v142 : BitVec 1 := Scalar.cmpi .ne v2 c24_i32
  let v143 : BitVec 32 := Scalar.extui v142
  let c0_i32_57 : BitVec 32 := 0#32
  let v144 : BitVec 1 := Scalar.cmpi .ne v143 c0_i32_57
  v144

def k0_dev25 : Nat :=
  let c0_i32_450 : BitVec 32 := 0#32
  let c24_i32_448 : BitVec 32 := 24#32
  let c1_i32_449 : BitVec 32 := 1#32
  let v720 : BitVec 32 := Scalar.muli c24_i32_448 c1_i32_449
  let v721 : BitVec 32 := Scalar.addi c0_i32_450 v720
  v721.toNat
def k0_cond26 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v145 : BitVec 1 := Scalar.cmpi .ne v2 c25_i32
  let v146 : BitVec 32 := Scalar.extui v145
  let c0_i32_58 : BitVec 32 := 0#32
  let v147 : BitVec 1 := Scalar.cmpi .ne v146 c0_i32_58
  v147

def k0_dev26 : Nat :=
  let c0_i32_450 : BitVec 32 := 0#32
  let c25_i32_448 : BitVec 32 := 25#32
  let c1_i32_449 : BitVec 32 := 1#32
  let v720 : BitVec 32 := Scalar.muli c25_i32_448 c1_i32_449
  let v721 : BitVec 32 := Scalar.addi c0_i32_450 v720
  v721.toNat
def k0_cond27 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v148 : BitVec 1 := Scalar.cmpi .ne v2 c26_i32
  let v149 : BitVec 32 := Scalar.extui v148
  let c0_i32_59 : BitVec 32 := 0#32
  let v150 : BitVec 1 := Scalar.cmpi .ne v149 c0_i32_59
  v150

def k0_dev27 : Nat :=
  let c0_i32_450 : BitVec 32 := 0#32
  let c26_i32_448 : BitVec 32 := 26#32
  let c1_i32_449 : BitVec 32 := 1#32
  let v720 : BitVec 32 := Scalar.muli c26_i32_448 c1_i32_449
  let v721 : BitVec 32 := Scalar.addi c0_i32_450 v720
  v721.toNat
def k0_cond28 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v151 : BitVec 1 := Scalar.cmpi .ne v2 c27_i32
  let v152 : BitVec 32 := Scalar.extui v151
  let c0_i32_60 : BitVec 32 := 0#32
  let v153 : BitVec 1 := Scalar.cmpi .ne v152 c0_i32_60
  v153

def k0_dev28 : Nat :=
  let c0_i32_450 : BitVec 32 := 0#32
  let c27_i32_448 : BitVec 32 := 27#32
  let c1_i32_449 : BitVec 32 := 1#32
  let v720 : BitVec 32 := Scalar.muli c27_i32_448 c1_i32_449
  let v721 : BitVec 32 := Scalar.addi c0_i32_450 v720
  v721.toNat
def k0_cond29 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v154 : BitVec 1 := Scalar.cmpi .ne v2 c28_i32
  let v155 : BitVec 32 := Scalar.extui v154
  let c0_i32_61 : BitVec 32 := 0#32
  let v156 : BitVec 1 := Scalar.cmpi .ne v155 c0_i32_61
  v156

def k0_dev29 : Nat :=
  let c0_i32_450 : BitVec 32 := 0#32
  let c28_i32_448 : BitVec 32 := 28#32
  let c1_i32_449 : BitVec 32 := 1#32
  let v720 : BitVec 32 := Scalar.muli c28_i32_448 c1_i32_449
  let v721 : BitVec 32 := Scalar.addi c0_i32_450 v720
  v721.toNat
def k0_cond30 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v157 : BitVec 1 := Scalar.cmpi .ne v2 c29_i32
  let v158 : BitVec 32 := Scalar.extui v157
  let c0_i32_62 : BitVec 32 := 0#32
  let v159 : BitVec 1 := Scalar.cmpi .ne v158 c0_i32_62
  v159

def k0_dev30 : Nat :=
  let c0_i32_450 : BitVec 32 := 0#32
  let c29_i32_448 : BitVec 32 := 29#32
  let c1_i32_449 : BitVec 32 := 1#32
  let v720 : BitVec 32 := Scalar.muli c29_i32_448 c1_i32_449
  let v721 : BitVec 32 := Scalar.addi c0_i32_450 v720
  v721.toNat
def k0_cond31 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v160 : BitVec 1 := Scalar.cmpi .ne v2 c30_i32
  let v161 : BitVec 32 := Scalar.extui v160
  let c0_i32_63 : BitVec 32 := 0#32
  let v162 : BitVec 1 := Scalar.cmpi .ne v161 c0_i32_63
  v162

def k0_dev31 : Nat :=
  let c0_i32_450 : BitVec 32 := 0#32
  let c30_i32_448 : BitVec 32 := 30#32
  let c1_i32_449 : BitVec 32 := 1#32
  let v720 : BitVec 32 := Scalar.muli c30_i32_448 c1_i32_449
  let v721 : BitVec 32 := Scalar.addi c0_i32_450 v720
  v721.toNat
def k0_cond32 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v163 : BitVec 1 := Scalar.cmpi .ne v2 c31_i32
  let v164 : BitVec 32 := Scalar.extui v163
  let c0_i32_64 : BitVec 32 := 0#32
  let v165 : BitVec 1 := Scalar.cmpi .ne v164 c0_i32_64
  v165

def k0_dev32 : Nat :=
  let c0_i32_450 : BitVec 32 := 0#32
  let c31_i32_448 : BitVec 32 := 31#32
  let c1_i32_449 : BitVec 32 := 1#32
  let v720 : BitVec 32 := Scalar.muli c31_i32_448 c1_i32_449
  let v721 : BitVec 32 := Scalar.addi c0_i32_450 v720
  v721.toNat
def k0_cond33 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_66 : BitVec 32 := 0#32
  let v166 : BitVec 1 := Scalar.cmpi .slt v2 c0_i32_66
  let v167 : BitVec 32 := Scalar.extui v166
  let c0_i32_67 : BitVec 32 := 0#32
  let v168 : BitVec 1 := Scalar.cmpi .ne v167 c0_i32_67
  v168

def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_451 : BitVec 32 := 0#32
  let c0_i32_452 : BitVec 32 := 0#32
  ![v2.toNat, 0, 0]
def k0_dev33 : Nat :=
  let c0_i32_450 : BitVec 32 := 0#32
  let c0_i32_448 : BitVec 32 := 0#32
  let c1_i32_449 : BitVec 32 := 1#32
  let v720 : BitVec 32 := Scalar.muli c0_i32_448 c1_i32_449
  let v721 : BitVec 32 := Scalar.addi c0_i32_450 v720
  v721.toNat
def k0_cond34 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_68 : BitVec 32 := 1#32
  let v169 : BitVec 1 := Scalar.cmpi .slt v2 c1_i32_68
  let v170 : BitVec 32 := Scalar.extui v169
  let c0_i32_69 : BitVec 32 := 0#32
  let v171 : BitVec 1 := Scalar.cmpi .ne v170 c0_i32_69
  v171

def k0_off3 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_451 : BitVec 32 := 0#32
  let c0_i32_452 : BitVec 32 := 0#32
  ![v2.toNat, 0, 0]
def k0_dev34 : Nat :=
  let c0_i32_450 : BitVec 32 := 0#32
  let c1_i32_448 : BitVec 32 := 1#32
  let c1_i32_449 : BitVec 32 := 1#32
  let v720 : BitVec 32 := Scalar.muli c1_i32_448 c1_i32_449
  let v721 : BitVec 32 := Scalar.addi c0_i32_450 v720
  v721.toNat
def k0_cond35 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_70 : BitVec 32 := 2#32
  let v172 : BitVec 1 := Scalar.cmpi .slt v2 c2_i32_70
  let v173 : BitVec 32 := Scalar.extui v172
  let c0_i32_71 : BitVec 32 := 0#32
  let v174 : BitVec 1 := Scalar.cmpi .ne v173 c0_i32_71
  v174

def k0_off5 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off6 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_451 : BitVec 32 := 0#32
  let c0_i32_452 : BitVec 32 := 0#32
  ![v2.toNat, 0, 0]
def k0_dev35 : Nat :=
  let c0_i32_450 : BitVec 32 := 0#32
  let c2_i32_448 : BitVec 32 := 2#32
  let c1_i32_449 : BitVec 32 := 1#32
  let v720 : BitVec 32 := Scalar.muli c2_i32_448 c1_i32_449
  let v721 : BitVec 32 := Scalar.addi c0_i32_450 v720
  v721.toNat
def k0_cond36 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_72 : BitVec 32 := 3#32
  let v175 : BitVec 1 := Scalar.cmpi .slt v2 c3_i32_72
  let v176 : BitVec 32 := Scalar.extui v175
  let c0_i32_73 : BitVec 32 := 0#32
  let v177 : BitVec 1 := Scalar.cmpi .ne v176 c0_i32_73
  v177

def k0_off7 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off8 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_451 : BitVec 32 := 0#32
  let c0_i32_452 : BitVec 32 := 0#32
  ![v2.toNat, 0, 0]
def k0_dev36 : Nat :=
  let c0_i32_450 : BitVec 32 := 0#32
  let c3_i32_448 : BitVec 32 := 3#32
  let c1_i32_449 : BitVec 32 := 1#32
  let v720 : BitVec 32 := Scalar.muli c3_i32_448 c1_i32_449
  let v721 : BitVec 32 := Scalar.addi c0_i32_450 v720
  v721.toNat
def k0_cond37 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_74 : BitVec 32 := 4#32
  let v178 : BitVec 1 := Scalar.cmpi .slt v2 c4_i32_74
  let v179 : BitVec 32 := Scalar.extui v178
  let c0_i32_75 : BitVec 32 := 0#32
  let v180 : BitVec 1 := Scalar.cmpi .ne v179 c0_i32_75
  v180

def k0_off9 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off10 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_451 : BitVec 32 := 0#32
  let c0_i32_452 : BitVec 32 := 0#32
  ![v2.toNat, 0, 0]
def k0_dev37 : Nat :=
  let c0_i32_450 : BitVec 32 := 0#32
  let c4_i32_448 : BitVec 32 := 4#32
  let c1_i32_449 : BitVec 32 := 1#32
  let v720 : BitVec 32 := Scalar.muli c4_i32_448 c1_i32_449
  let v721 : BitVec 32 := Scalar.addi c0_i32_450 v720
  v721.toNat
def k0_cond38 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_76 : BitVec 32 := 5#32
  let v181 : BitVec 1 := Scalar.cmpi .slt v2 c5_i32_76
  let v182 : BitVec 32 := Scalar.extui v181
  let c0_i32_77 : BitVec 32 := 0#32
  let v183 : BitVec 1 := Scalar.cmpi .ne v182 c0_i32_77
  v183

def k0_off11 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off12 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_451 : BitVec 32 := 0#32
  let c0_i32_452 : BitVec 32 := 0#32
  ![v2.toNat, 0, 0]
def k0_dev38 : Nat :=
  let c0_i32_450 : BitVec 32 := 0#32
  let c5_i32_448 : BitVec 32 := 5#32
  let c1_i32_449 : BitVec 32 := 1#32
  let v720 : BitVec 32 := Scalar.muli c5_i32_448 c1_i32_449
  let v721 : BitVec 32 := Scalar.addi c0_i32_450 v720
  v721.toNat
def k0_cond39 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_78 : BitVec 32 := 6#32
  let v184 : BitVec 1 := Scalar.cmpi .slt v2 c6_i32_78
  let v185 : BitVec 32 := Scalar.extui v184
  let c0_i32_79 : BitVec 32 := 0#32
  let v186 : BitVec 1 := Scalar.cmpi .ne v185 c0_i32_79
  v186

def k0_off13 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off14 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_451 : BitVec 32 := 0#32
  let c0_i32_452 : BitVec 32 := 0#32
  ![v2.toNat, 0, 0]
def k0_dev39 : Nat :=
  let c0_i32_450 : BitVec 32 := 0#32
  let c6_i32_448 : BitVec 32 := 6#32
  let c1_i32_449 : BitVec 32 := 1#32
  let v720 : BitVec 32 := Scalar.muli c6_i32_448 c1_i32_449
  let v721 : BitVec 32 := Scalar.addi c0_i32_450 v720
  v721.toNat
def k0_cond40 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_80 : BitVec 32 := 7#32
  let v187 : BitVec 1 := Scalar.cmpi .slt v2 c7_i32_80
  let v188 : BitVec 32 := Scalar.extui v187
  let c0_i32_81 : BitVec 32 := 0#32
  let v189 : BitVec 1 := Scalar.cmpi .ne v188 c0_i32_81
  v189

def k0_off15 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off16 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_451 : BitVec 32 := 0#32
  let c0_i32_452 : BitVec 32 := 0#32
  ![v2.toNat, 0, 0]
def k0_dev40 : Nat :=
  let c0_i32_450 : BitVec 32 := 0#32
  let c7_i32_448 : BitVec 32 := 7#32
  let c1_i32_449 : BitVec 32 := 1#32
  let v720 : BitVec 32 := Scalar.muli c7_i32_448 c1_i32_449
  let v721 : BitVec 32 := Scalar.addi c0_i32_450 v720
  v721.toNat
def k0_cond41 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_82 : BitVec 32 := 8#32
  let v190 : BitVec 1 := Scalar.cmpi .slt v2 c8_i32_82
  let v191 : BitVec 32 := Scalar.extui v190
  let c0_i32_83 : BitVec 32 := 0#32
  let v192 : BitVec 1 := Scalar.cmpi .ne v191 c0_i32_83
  v192

def k0_off17 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off18 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_451 : BitVec 32 := 0#32
  let c0_i32_452 : BitVec 32 := 0#32
  ![v2.toNat, 0, 0]
def k0_dev41 : Nat :=
  let c0_i32_450 : BitVec 32 := 0#32
  let c8_i32_448 : BitVec 32 := 8#32
  let c1_i32_449 : BitVec 32 := 1#32
  let v720 : BitVec 32 := Scalar.muli c8_i32_448 c1_i32_449
  let v721 : BitVec 32 := Scalar.addi c0_i32_450 v720
  v721.toNat
def k0_cond42 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_84 : BitVec 32 := 9#32
  let v193 : BitVec 1 := Scalar.cmpi .slt v2 c9_i32_84
  let v194 : BitVec 32 := Scalar.extui v193
  let c0_i32_85 : BitVec 32 := 0#32
  let v195 : BitVec 1 := Scalar.cmpi .ne v194 c0_i32_85
  v195

def k0_off19 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off20 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_451 : BitVec 32 := 0#32
  let c0_i32_452 : BitVec 32 := 0#32
  ![v2.toNat, 0, 0]
def k0_dev42 : Nat :=
  let c0_i32_450 : BitVec 32 := 0#32
  let c9_i32_448 : BitVec 32 := 9#32
  let c1_i32_449 : BitVec 32 := 1#32
  let v720 : BitVec 32 := Scalar.muli c9_i32_448 c1_i32_449
  let v721 : BitVec 32 := Scalar.addi c0_i32_450 v720
  v721.toNat
def k0_cond43 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_86 : BitVec 32 := 10#32
  let v196 : BitVec 1 := Scalar.cmpi .slt v2 c10_i32_86
  let v197 : BitVec 32 := Scalar.extui v196
  let c0_i32_87 : BitVec 32 := 0#32
  let v198 : BitVec 1 := Scalar.cmpi .ne v197 c0_i32_87
  v198

def k0_off21 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off22 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_451 : BitVec 32 := 0#32
  let c0_i32_452 : BitVec 32 := 0#32
  ![v2.toNat, 0, 0]
def k0_dev43 : Nat :=
  let c0_i32_450 : BitVec 32 := 0#32
  let c10_i32_448 : BitVec 32 := 10#32
  let c1_i32_449 : BitVec 32 := 1#32
  let v720 : BitVec 32 := Scalar.muli c10_i32_448 c1_i32_449
  let v721 : BitVec 32 := Scalar.addi c0_i32_450 v720
  v721.toNat
def k0_cond44 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_88 : BitVec 32 := 11#32
  let v199 : BitVec 1 := Scalar.cmpi .slt v2 c11_i32_88
  let v200 : BitVec 32 := Scalar.extui v199
  let c0_i32_89 : BitVec 32 := 0#32
  let v201 : BitVec 1 := Scalar.cmpi .ne v200 c0_i32_89
  v201

def k0_off23 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off24 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_451 : BitVec 32 := 0#32
  let c0_i32_452 : BitVec 32 := 0#32
  ![v2.toNat, 0, 0]
def k0_dev44 : Nat :=
  let c0_i32_450 : BitVec 32 := 0#32
  let c11_i32_448 : BitVec 32 := 11#32
  let c1_i32_449 : BitVec 32 := 1#32
  let v720 : BitVec 32 := Scalar.muli c11_i32_448 c1_i32_449
  let v721 : BitVec 32 := Scalar.addi c0_i32_450 v720
  v721.toNat
def k0_cond45 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_90 : BitVec 32 := 12#32
  let v202 : BitVec 1 := Scalar.cmpi .slt v2 c12_i32_90
  let v203 : BitVec 32 := Scalar.extui v202
  let c0_i32_91 : BitVec 32 := 0#32
  let v204 : BitVec 1 := Scalar.cmpi .ne v203 c0_i32_91
  v204

def k0_off25 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off26 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_451 : BitVec 32 := 0#32
  let c0_i32_452 : BitVec 32 := 0#32
  ![v2.toNat, 0, 0]
def k0_dev45 : Nat :=
  let c0_i32_450 : BitVec 32 := 0#32
  let c12_i32_448 : BitVec 32 := 12#32
  let c1_i32_449 : BitVec 32 := 1#32
  let v720 : BitVec 32 := Scalar.muli c12_i32_448 c1_i32_449
  let v721 : BitVec 32 := Scalar.addi c0_i32_450 v720
  v721.toNat
def k0_cond46 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_92 : BitVec 32 := 13#32
  let v205 : BitVec 1 := Scalar.cmpi .slt v2 c13_i32_92
  let v206 : BitVec 32 := Scalar.extui v205
  let c0_i32_93 : BitVec 32 := 0#32
  let v207 : BitVec 1 := Scalar.cmpi .ne v206 c0_i32_93
  v207

def k0_off27 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off28 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_451 : BitVec 32 := 0#32
  let c0_i32_452 : BitVec 32 := 0#32
  ![v2.toNat, 0, 0]
def k0_dev46 : Nat :=
  let c0_i32_450 : BitVec 32 := 0#32
  let c13_i32_448 : BitVec 32 := 13#32
  let c1_i32_449 : BitVec 32 := 1#32
  let v720 : BitVec 32 := Scalar.muli c13_i32_448 c1_i32_449
  let v721 : BitVec 32 := Scalar.addi c0_i32_450 v720
  v721.toNat
def k0_cond47 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_94 : BitVec 32 := 14#32
  let v208 : BitVec 1 := Scalar.cmpi .slt v2 c14_i32_94
  let v209 : BitVec 32 := Scalar.extui v208
  let c0_i32_95 : BitVec 32 := 0#32
  let v210 : BitVec 1 := Scalar.cmpi .ne v209 c0_i32_95
  v210

def k0_off29 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off30 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_451 : BitVec 32 := 0#32
  let c0_i32_452 : BitVec 32 := 0#32
  ![v2.toNat, 0, 0]
def k0_dev47 : Nat :=
  let c0_i32_450 : BitVec 32 := 0#32
  let c14_i32_448 : BitVec 32 := 14#32
  let c1_i32_449 : BitVec 32 := 1#32
  let v720 : BitVec 32 := Scalar.muli c14_i32_448 c1_i32_449
  let v721 : BitVec 32 := Scalar.addi c0_i32_450 v720
  v721.toNat
def k0_cond48 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_96 : BitVec 32 := 15#32
  let v211 : BitVec 1 := Scalar.cmpi .slt v2 c15_i32_96
  let v212 : BitVec 32 := Scalar.extui v211
  let c0_i32_97 : BitVec 32 := 0#32
  let v213 : BitVec 1 := Scalar.cmpi .ne v212 c0_i32_97
  v213

def k0_off31 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off32 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_451 : BitVec 32 := 0#32
  let c0_i32_452 : BitVec 32 := 0#32
  ![v2.toNat, 0, 0]
def k0_dev48 : Nat :=
  let c0_i32_450 : BitVec 32 := 0#32
  let c15_i32_448 : BitVec 32 := 15#32
  let c1_i32_449 : BitVec 32 := 1#32
  let v720 : BitVec 32 := Scalar.muli c15_i32_448 c1_i32_449
  let v721 : BitVec 32 := Scalar.addi c0_i32_450 v720
  v721.toNat
def k0_cond49 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_98 : BitVec 32 := 16#32
  let v214 : BitVec 1 := Scalar.cmpi .slt v2 c16_i32_98
  let v215 : BitVec 32 := Scalar.extui v214
  let c0_i32_99 : BitVec 32 := 0#32
  let v216 : BitVec 1 := Scalar.cmpi .ne v215 c0_i32_99
  v216

def k0_off33 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off34 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_451 : BitVec 32 := 0#32
  let c0_i32_452 : BitVec 32 := 0#32
  ![v2.toNat, 0, 0]
def k0_dev49 : Nat :=
  let c0_i32_450 : BitVec 32 := 0#32
  let c16_i32_448 : BitVec 32 := 16#32
  let c1_i32_449 : BitVec 32 := 1#32
  let v720 : BitVec 32 := Scalar.muli c16_i32_448 c1_i32_449
  let v721 : BitVec 32 := Scalar.addi c0_i32_450 v720
  v721.toNat
def k0_cond50 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_100 : BitVec 32 := 17#32
  let v217 : BitVec 1 := Scalar.cmpi .slt v2 c17_i32_100
  let v218 : BitVec 32 := Scalar.extui v217
  let c0_i32_101 : BitVec 32 := 0#32
  let v219 : BitVec 1 := Scalar.cmpi .ne v218 c0_i32_101
  v219

def k0_off35 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off36 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_451 : BitVec 32 := 0#32
  let c0_i32_452 : BitVec 32 := 0#32
  ![v2.toNat, 0, 0]
def k0_dev50 : Nat :=
  let c0_i32_450 : BitVec 32 := 0#32
  let c17_i32_448 : BitVec 32 := 17#32
  let c1_i32_449 : BitVec 32 := 1#32
  let v720 : BitVec 32 := Scalar.muli c17_i32_448 c1_i32_449
  let v721 : BitVec 32 := Scalar.addi c0_i32_450 v720
  v721.toNat
def k0_cond51 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_102 : BitVec 32 := 18#32
  let v220 : BitVec 1 := Scalar.cmpi .slt v2 c18_i32_102
  let v221 : BitVec 32 := Scalar.extui v220
  let c0_i32_103 : BitVec 32 := 0#32
  let v222 : BitVec 1 := Scalar.cmpi .ne v221 c0_i32_103
  v222

def k0_off37 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off38 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_451 : BitVec 32 := 0#32
  let c0_i32_452 : BitVec 32 := 0#32
  ![v2.toNat, 0, 0]
def k0_dev51 : Nat :=
  let c0_i32_450 : BitVec 32 := 0#32
  let c18_i32_448 : BitVec 32 := 18#32
  let c1_i32_449 : BitVec 32 := 1#32
  let v720 : BitVec 32 := Scalar.muli c18_i32_448 c1_i32_449
  let v721 : BitVec 32 := Scalar.addi c0_i32_450 v720
  v721.toNat
def k0_cond52 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_104 : BitVec 32 := 19#32
  let v223 : BitVec 1 := Scalar.cmpi .slt v2 c19_i32_104
  let v224 : BitVec 32 := Scalar.extui v223
  let c0_i32_105 : BitVec 32 := 0#32
  let v225 : BitVec 1 := Scalar.cmpi .ne v224 c0_i32_105
  v225

def k0_off39 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off40 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_451 : BitVec 32 := 0#32
  let c0_i32_452 : BitVec 32 := 0#32
  ![v2.toNat, 0, 0]
def k0_dev52 : Nat :=
  let c0_i32_450 : BitVec 32 := 0#32
  let c19_i32_448 : BitVec 32 := 19#32
  let c1_i32_449 : BitVec 32 := 1#32
  let v720 : BitVec 32 := Scalar.muli c19_i32_448 c1_i32_449
  let v721 : BitVec 32 := Scalar.addi c0_i32_450 v720
  v721.toNat
def k0_cond53 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_106 : BitVec 32 := 20#32
  let v226 : BitVec 1 := Scalar.cmpi .slt v2 c20_i32_106
  let v227 : BitVec 32 := Scalar.extui v226
  let c0_i32_107 : BitVec 32 := 0#32
  let v228 : BitVec 1 := Scalar.cmpi .ne v227 c0_i32_107
  v228

def k0_off41 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off42 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_451 : BitVec 32 := 0#32
  let c0_i32_452 : BitVec 32 := 0#32
  ![v2.toNat, 0, 0]
def k0_dev53 : Nat :=
  let c0_i32_450 : BitVec 32 := 0#32
  let c20_i32_448 : BitVec 32 := 20#32
  let c1_i32_449 : BitVec 32 := 1#32
  let v720 : BitVec 32 := Scalar.muli c20_i32_448 c1_i32_449
  let v721 : BitVec 32 := Scalar.addi c0_i32_450 v720
  v721.toNat
def k0_cond54 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_108 : BitVec 32 := 21#32
  let v229 : BitVec 1 := Scalar.cmpi .slt v2 c21_i32_108
  let v230 : BitVec 32 := Scalar.extui v229
  let c0_i32_109 : BitVec 32 := 0#32
  let v231 : BitVec 1 := Scalar.cmpi .ne v230 c0_i32_109
  v231

def k0_off43 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off44 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_451 : BitVec 32 := 0#32
  let c0_i32_452 : BitVec 32 := 0#32
  ![v2.toNat, 0, 0]
def k0_dev54 : Nat :=
  let c0_i32_450 : BitVec 32 := 0#32
  let c21_i32_448 : BitVec 32 := 21#32
  let c1_i32_449 : BitVec 32 := 1#32
  let v720 : BitVec 32 := Scalar.muli c21_i32_448 c1_i32_449
  let v721 : BitVec 32 := Scalar.addi c0_i32_450 v720
  v721.toNat
def k0_cond55 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_110 : BitVec 32 := 22#32
  let v232 : BitVec 1 := Scalar.cmpi .slt v2 c22_i32_110
  let v233 : BitVec 32 := Scalar.extui v232
  let c0_i32_111 : BitVec 32 := 0#32
  let v234 : BitVec 1 := Scalar.cmpi .ne v233 c0_i32_111
  v234

def k0_off45 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off46 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_451 : BitVec 32 := 0#32
  let c0_i32_452 : BitVec 32 := 0#32
  ![v2.toNat, 0, 0]
def k0_dev55 : Nat :=
  let c0_i32_450 : BitVec 32 := 0#32
  let c22_i32_448 : BitVec 32 := 22#32
  let c1_i32_449 : BitVec 32 := 1#32
  let v720 : BitVec 32 := Scalar.muli c22_i32_448 c1_i32_449
  let v721 : BitVec 32 := Scalar.addi c0_i32_450 v720
  v721.toNat
def k0_cond56 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_112 : BitVec 32 := 23#32
  let v235 : BitVec 1 := Scalar.cmpi .slt v2 c23_i32_112
  let v236 : BitVec 32 := Scalar.extui v235
  let c0_i32_113 : BitVec 32 := 0#32
  let v237 : BitVec 1 := Scalar.cmpi .ne v236 c0_i32_113
  v237

def k0_off47 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off48 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_451 : BitVec 32 := 0#32
  let c0_i32_452 : BitVec 32 := 0#32
  ![v2.toNat, 0, 0]
def k0_dev56 : Nat :=
  let c0_i32_450 : BitVec 32 := 0#32
  let c23_i32_448 : BitVec 32 := 23#32
  let c1_i32_449 : BitVec 32 := 1#32
  let v720 : BitVec 32 := Scalar.muli c23_i32_448 c1_i32_449
  let v721 : BitVec 32 := Scalar.addi c0_i32_450 v720
  v721.toNat
def k0_cond57 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_114 : BitVec 32 := 24#32
  let v238 : BitVec 1 := Scalar.cmpi .slt v2 c24_i32_114
  let v239 : BitVec 32 := Scalar.extui v238
  let c0_i32_115 : BitVec 32 := 0#32
  let v240 : BitVec 1 := Scalar.cmpi .ne v239 c0_i32_115
  v240

def k0_off49 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off50 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_451 : BitVec 32 := 0#32
  let c0_i32_452 : BitVec 32 := 0#32
  ![v2.toNat, 0, 0]
def k0_dev57 : Nat :=
  let c0_i32_450 : BitVec 32 := 0#32
  let c24_i32_448 : BitVec 32 := 24#32
  let c1_i32_449 : BitVec 32 := 1#32
  let v720 : BitVec 32 := Scalar.muli c24_i32_448 c1_i32_449
  let v721 : BitVec 32 := Scalar.addi c0_i32_450 v720
  v721.toNat
def k0_cond58 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_116 : BitVec 32 := 25#32
  let v241 : BitVec 1 := Scalar.cmpi .slt v2 c25_i32_116
  let v242 : BitVec 32 := Scalar.extui v241
  let c0_i32_117 : BitVec 32 := 0#32
  let v243 : BitVec 1 := Scalar.cmpi .ne v242 c0_i32_117
  v243

def k0_off51 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off52 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_451 : BitVec 32 := 0#32
  let c0_i32_452 : BitVec 32 := 0#32
  ![v2.toNat, 0, 0]
def k0_dev58 : Nat :=
  let c0_i32_450 : BitVec 32 := 0#32
  let c25_i32_448 : BitVec 32 := 25#32
  let c1_i32_449 : BitVec 32 := 1#32
  let v720 : BitVec 32 := Scalar.muli c25_i32_448 c1_i32_449
  let v721 : BitVec 32 := Scalar.addi c0_i32_450 v720
  v721.toNat
def k0_cond59 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_118 : BitVec 32 := 26#32
  let v244 : BitVec 1 := Scalar.cmpi .slt v2 c26_i32_118
  let v245 : BitVec 32 := Scalar.extui v244
  let c0_i32_119 : BitVec 32 := 0#32
  let v246 : BitVec 1 := Scalar.cmpi .ne v245 c0_i32_119
  v246

def k0_off53 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off54 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_451 : BitVec 32 := 0#32
  let c0_i32_452 : BitVec 32 := 0#32
  ![v2.toNat, 0, 0]
def k0_dev59 : Nat :=
  let c0_i32_450 : BitVec 32 := 0#32
  let c26_i32_448 : BitVec 32 := 26#32
  let c1_i32_449 : BitVec 32 := 1#32
  let v720 : BitVec 32 := Scalar.muli c26_i32_448 c1_i32_449
  let v721 : BitVec 32 := Scalar.addi c0_i32_450 v720
  v721.toNat
def k0_cond60 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_120 : BitVec 32 := 27#32
  let v247 : BitVec 1 := Scalar.cmpi .slt v2 c27_i32_120
  let v248 : BitVec 32 := Scalar.extui v247
  let c0_i32_121 : BitVec 32 := 0#32
  let v249 : BitVec 1 := Scalar.cmpi .ne v248 c0_i32_121
  v249

def k0_off55 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off56 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_451 : BitVec 32 := 0#32
  let c0_i32_452 : BitVec 32 := 0#32
  ![v2.toNat, 0, 0]
def k0_dev60 : Nat :=
  let c0_i32_450 : BitVec 32 := 0#32
  let c27_i32_448 : BitVec 32 := 27#32
  let c1_i32_449 : BitVec 32 := 1#32
  let v720 : BitVec 32 := Scalar.muli c27_i32_448 c1_i32_449
  let v721 : BitVec 32 := Scalar.addi c0_i32_450 v720
  v721.toNat
def k0_cond61 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_122 : BitVec 32 := 28#32
  let v250 : BitVec 1 := Scalar.cmpi .slt v2 c28_i32_122
  let v251 : BitVec 32 := Scalar.extui v250
  let c0_i32_123 : BitVec 32 := 0#32
  let v252 : BitVec 1 := Scalar.cmpi .ne v251 c0_i32_123
  v252

def k0_off57 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off58 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_451 : BitVec 32 := 0#32
  let c0_i32_452 : BitVec 32 := 0#32
  ![v2.toNat, 0, 0]
def k0_dev61 : Nat :=
  let c0_i32_450 : BitVec 32 := 0#32
  let c28_i32_448 : BitVec 32 := 28#32
  let c1_i32_449 : BitVec 32 := 1#32
  let v720 : BitVec 32 := Scalar.muli c28_i32_448 c1_i32_449
  let v721 : BitVec 32 := Scalar.addi c0_i32_450 v720
  v721.toNat
def k0_cond62 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_124 : BitVec 32 := 29#32
  let v253 : BitVec 1 := Scalar.cmpi .slt v2 c29_i32_124
  let v254 : BitVec 32 := Scalar.extui v253
  let c0_i32_125 : BitVec 32 := 0#32
  let v255 : BitVec 1 := Scalar.cmpi .ne v254 c0_i32_125
  v255

def k0_off59 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off60 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_451 : BitVec 32 := 0#32
  let c0_i32_452 : BitVec 32 := 0#32
  ![v2.toNat, 0, 0]
def k0_dev62 : Nat :=
  let c0_i32_450 : BitVec 32 := 0#32
  let c29_i32_448 : BitVec 32 := 29#32
  let c1_i32_449 : BitVec 32 := 1#32
  let v720 : BitVec 32 := Scalar.muli c29_i32_448 c1_i32_449
  let v721 : BitVec 32 := Scalar.addi c0_i32_450 v720
  v721.toNat
def k0_cond63 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_126 : BitVec 32 := 30#32
  let v256 : BitVec 1 := Scalar.cmpi .slt v2 c30_i32_126
  let v257 : BitVec 32 := Scalar.extui v256
  let c0_i32_127 : BitVec 32 := 0#32
  let v258 : BitVec 1 := Scalar.cmpi .ne v257 c0_i32_127
  v258

def k0_off61 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off62 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_451 : BitVec 32 := 0#32
  let c0_i32_452 : BitVec 32 := 0#32
  ![v2.toNat, 0, 0]
def k0_dev63 : Nat :=
  let c0_i32_450 : BitVec 32 := 0#32
  let c30_i32_448 : BitVec 32 := 30#32
  let c1_i32_449 : BitVec 32 := 1#32
  let v720 : BitVec 32 := Scalar.muli c30_i32_448 c1_i32_449
  let v721 : BitVec 32 := Scalar.addi c0_i32_450 v720
  v721.toNat
def k0_cond64 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_128 : BitVec 32 := 31#32
  let v259 : BitVec 1 := Scalar.cmpi .slt v2 c31_i32_128
  let v260 : BitVec 32 := Scalar.extui v259
  let c0_i32_129 : BitVec 32 := 0#32
  let v261 : BitVec 1 := Scalar.cmpi .ne v260 c0_i32_129
  v261

def k0_off63 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off64 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_451 : BitVec 32 := 0#32
  let c0_i32_452 : BitVec 32 := 0#32
  ![v2.toNat, 0, 0]
def k0_dev64 : Nat :=
  let c0_i32_450 : BitVec 32 := 0#32
  let c31_i32_448 : BitVec 32 := 31#32
  let c1_i32_449 : BitVec 32 := 1#32
  let v720 : BitVec 32 := Scalar.muli c31_i32_448 c1_i32_449
  let v721 : BitVec 32 := Scalar.addi c0_i32_450 v720
  v721.toNat
def k0_cond97 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_255 : BitVec 32 := 0#32
  let v432 : BitVec 1 := Scalar.cmpi .slt v2 c0_i32_255
  let v433 : BitVec 32 := Scalar.extui v432
  let c0_i32_256 : BitVec 32 := 0#32
  let v434 : BitVec 1 := Scalar.cmpi .ne v433 c0_i32_256
  v434

def k0_off65 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_450 : BitVec 32 := 0#32
  let c0_i32_451 : BitVec 32 := 0#32
  ![v2.toNat, 0, 0]
def k0_cond98 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_257 : BitVec 32 := 1#32
  let v435 : BitVec 1 := Scalar.cmpi .slt v2 c1_i32_257
  let v436 : BitVec 32 := Scalar.extui v435
  let c0_i32_258 : BitVec 32 := 0#32
  let v437 : BitVec 1 := Scalar.cmpi .ne v436 c0_i32_258
  v437

def k0_off66 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_450 : BitVec 32 := 0#32
  let c0_i32_451 : BitVec 32 := 0#32
  ![v2.toNat, 0, 0]
def k0_cond99 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_259 : BitVec 32 := 2#32
  let v438 : BitVec 1 := Scalar.cmpi .slt v2 c2_i32_259
  let v439 : BitVec 32 := Scalar.extui v438
  let c0_i32_260 : BitVec 32 := 0#32
  let v440 : BitVec 1 := Scalar.cmpi .ne v439 c0_i32_260
  v440

def k0_off67 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_450 : BitVec 32 := 0#32
  let c0_i32_451 : BitVec 32 := 0#32
  ![v2.toNat, 0, 0]
def k0_cond100 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_261 : BitVec 32 := 3#32
  let v441 : BitVec 1 := Scalar.cmpi .slt v2 c3_i32_261
  let v442 : BitVec 32 := Scalar.extui v441
  let c0_i32_262 : BitVec 32 := 0#32
  let v443 : BitVec 1 := Scalar.cmpi .ne v442 c0_i32_262
  v443

def k0_off68 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_450 : BitVec 32 := 0#32
  let c0_i32_451 : BitVec 32 := 0#32
  ![v2.toNat, 0, 0]
def k0_cond101 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_263 : BitVec 32 := 4#32
  let v444 : BitVec 1 := Scalar.cmpi .slt v2 c4_i32_263
  let v445 : BitVec 32 := Scalar.extui v444
  let c0_i32_264 : BitVec 32 := 0#32
  let v446 : BitVec 1 := Scalar.cmpi .ne v445 c0_i32_264
  v446

def k0_off69 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_450 : BitVec 32 := 0#32
  let c0_i32_451 : BitVec 32 := 0#32
  ![v2.toNat, 0, 0]
def k0_cond102 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_265 : BitVec 32 := 5#32
  let v447 : BitVec 1 := Scalar.cmpi .slt v2 c5_i32_265
  let v448 : BitVec 32 := Scalar.extui v447
  let c0_i32_266 : BitVec 32 := 0#32
  let v449 : BitVec 1 := Scalar.cmpi .ne v448 c0_i32_266
  v449

def k0_off70 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_450 : BitVec 32 := 0#32
  let c0_i32_451 : BitVec 32 := 0#32
  ![v2.toNat, 0, 0]
def k0_cond103 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_267 : BitVec 32 := 6#32
  let v450 : BitVec 1 := Scalar.cmpi .slt v2 c6_i32_267
  let v451 : BitVec 32 := Scalar.extui v450
  let c0_i32_268 : BitVec 32 := 0#32
  let v452 : BitVec 1 := Scalar.cmpi .ne v451 c0_i32_268
  v452

def k0_off71 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_450 : BitVec 32 := 0#32
  let c0_i32_451 : BitVec 32 := 0#32
  ![v2.toNat, 0, 0]
def k0_cond104 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_269 : BitVec 32 := 7#32
  let v453 : BitVec 1 := Scalar.cmpi .slt v2 c7_i32_269
  let v454 : BitVec 32 := Scalar.extui v453
  let c0_i32_270 : BitVec 32 := 0#32
  let v455 : BitVec 1 := Scalar.cmpi .ne v454 c0_i32_270
  v455

def k0_off72 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_450 : BitVec 32 := 0#32
  let c0_i32_451 : BitVec 32 := 0#32
  ![v2.toNat, 0, 0]
def k0_cond105 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_271 : BitVec 32 := 8#32
  let v456 : BitVec 1 := Scalar.cmpi .slt v2 c8_i32_271
  let v457 : BitVec 32 := Scalar.extui v456
  let c0_i32_272 : BitVec 32 := 0#32
  let v458 : BitVec 1 := Scalar.cmpi .ne v457 c0_i32_272
  v458

def k0_off73 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_450 : BitVec 32 := 0#32
  let c0_i32_451 : BitVec 32 := 0#32
  ![v2.toNat, 0, 0]
def k0_cond106 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_273 : BitVec 32 := 9#32
  let v459 : BitVec 1 := Scalar.cmpi .slt v2 c9_i32_273
  let v460 : BitVec 32 := Scalar.extui v459
  let c0_i32_274 : BitVec 32 := 0#32
  let v461 : BitVec 1 := Scalar.cmpi .ne v460 c0_i32_274
  v461

def k0_off74 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_450 : BitVec 32 := 0#32
  let c0_i32_451 : BitVec 32 := 0#32
  ![v2.toNat, 0, 0]
def k0_cond107 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_275 : BitVec 32 := 10#32
  let v462 : BitVec 1 := Scalar.cmpi .slt v2 c10_i32_275
  let v463 : BitVec 32 := Scalar.extui v462
  let c0_i32_276 : BitVec 32 := 0#32
  let v464 : BitVec 1 := Scalar.cmpi .ne v463 c0_i32_276
  v464

def k0_off75 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_450 : BitVec 32 := 0#32
  let c0_i32_451 : BitVec 32 := 0#32
  ![v2.toNat, 0, 0]
def k0_cond108 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_277 : BitVec 32 := 11#32
  let v465 : BitVec 1 := Scalar.cmpi .slt v2 c11_i32_277
  let v466 : BitVec 32 := Scalar.extui v465
  let c0_i32_278 : BitVec 32 := 0#32
  let v467 : BitVec 1 := Scalar.cmpi .ne v466 c0_i32_278
  v467

def k0_off76 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_450 : BitVec 32 := 0#32
  let c0_i32_451 : BitVec 32 := 0#32
  ![v2.toNat, 0, 0]
def k0_cond109 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_279 : BitVec 32 := 12#32
  let v468 : BitVec 1 := Scalar.cmpi .slt v2 c12_i32_279
  let v469 : BitVec 32 := Scalar.extui v468
  let c0_i32_280 : BitVec 32 := 0#32
  let v470 : BitVec 1 := Scalar.cmpi .ne v469 c0_i32_280
  v470

def k0_off77 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_450 : BitVec 32 := 0#32
  let c0_i32_451 : BitVec 32 := 0#32
  ![v2.toNat, 0, 0]
def k0_cond110 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_281 : BitVec 32 := 13#32
  let v471 : BitVec 1 := Scalar.cmpi .slt v2 c13_i32_281
  let v472 : BitVec 32 := Scalar.extui v471
  let c0_i32_282 : BitVec 32 := 0#32
  let v473 : BitVec 1 := Scalar.cmpi .ne v472 c0_i32_282
  v473

def k0_off78 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_450 : BitVec 32 := 0#32
  let c0_i32_451 : BitVec 32 := 0#32
  ![v2.toNat, 0, 0]
def k0_cond111 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_283 : BitVec 32 := 14#32
  let v474 : BitVec 1 := Scalar.cmpi .slt v2 c14_i32_283
  let v475 : BitVec 32 := Scalar.extui v474
  let c0_i32_284 : BitVec 32 := 0#32
  let v476 : BitVec 1 := Scalar.cmpi .ne v475 c0_i32_284
  v476

def k0_off79 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_450 : BitVec 32 := 0#32
  let c0_i32_451 : BitVec 32 := 0#32
  ![v2.toNat, 0, 0]
def k0_cond112 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_285 : BitVec 32 := 15#32
  let v477 : BitVec 1 := Scalar.cmpi .slt v2 c15_i32_285
  let v478 : BitVec 32 := Scalar.extui v477
  let c0_i32_286 : BitVec 32 := 0#32
  let v479 : BitVec 1 := Scalar.cmpi .ne v478 c0_i32_286
  v479

def k0_off80 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_450 : BitVec 32 := 0#32
  let c0_i32_451 : BitVec 32 := 0#32
  ![v2.toNat, 0, 0]
def k0_cond113 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_287 : BitVec 32 := 16#32
  let v480 : BitVec 1 := Scalar.cmpi .slt v2 c16_i32_287
  let v481 : BitVec 32 := Scalar.extui v480
  let c0_i32_288 : BitVec 32 := 0#32
  let v482 : BitVec 1 := Scalar.cmpi .ne v481 c0_i32_288
  v482

def k0_off81 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_450 : BitVec 32 := 0#32
  let c0_i32_451 : BitVec 32 := 0#32
  ![v2.toNat, 0, 0]
def k0_cond114 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_289 : BitVec 32 := 17#32
  let v483 : BitVec 1 := Scalar.cmpi .slt v2 c17_i32_289
  let v484 : BitVec 32 := Scalar.extui v483
  let c0_i32_290 : BitVec 32 := 0#32
  let v485 : BitVec 1 := Scalar.cmpi .ne v484 c0_i32_290
  v485

def k0_off82 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_450 : BitVec 32 := 0#32
  let c0_i32_451 : BitVec 32 := 0#32
  ![v2.toNat, 0, 0]
def k0_cond115 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_291 : BitVec 32 := 18#32
  let v486 : BitVec 1 := Scalar.cmpi .slt v2 c18_i32_291
  let v487 : BitVec 32 := Scalar.extui v486
  let c0_i32_292 : BitVec 32 := 0#32
  let v488 : BitVec 1 := Scalar.cmpi .ne v487 c0_i32_292
  v488

def k0_off83 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_450 : BitVec 32 := 0#32
  let c0_i32_451 : BitVec 32 := 0#32
  ![v2.toNat, 0, 0]
def k0_cond116 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_293 : BitVec 32 := 19#32
  let v489 : BitVec 1 := Scalar.cmpi .slt v2 c19_i32_293
  let v490 : BitVec 32 := Scalar.extui v489
  let c0_i32_294 : BitVec 32 := 0#32
  let v491 : BitVec 1 := Scalar.cmpi .ne v490 c0_i32_294
  v491

def k0_off84 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_450 : BitVec 32 := 0#32
  let c0_i32_451 : BitVec 32 := 0#32
  ![v2.toNat, 0, 0]
def k0_cond117 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_295 : BitVec 32 := 20#32
  let v492 : BitVec 1 := Scalar.cmpi .slt v2 c20_i32_295
  let v493 : BitVec 32 := Scalar.extui v492
  let c0_i32_296 : BitVec 32 := 0#32
  let v494 : BitVec 1 := Scalar.cmpi .ne v493 c0_i32_296
  v494

def k0_off85 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_450 : BitVec 32 := 0#32
  let c0_i32_451 : BitVec 32 := 0#32
  ![v2.toNat, 0, 0]
def k0_cond118 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_297 : BitVec 32 := 21#32
  let v495 : BitVec 1 := Scalar.cmpi .slt v2 c21_i32_297
  let v496 : BitVec 32 := Scalar.extui v495
  let c0_i32_298 : BitVec 32 := 0#32
  let v497 : BitVec 1 := Scalar.cmpi .ne v496 c0_i32_298
  v497

def k0_off86 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_450 : BitVec 32 := 0#32
  let c0_i32_451 : BitVec 32 := 0#32
  ![v2.toNat, 0, 0]
def k0_cond119 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_299 : BitVec 32 := 22#32
  let v498 : BitVec 1 := Scalar.cmpi .slt v2 c22_i32_299
  let v499 : BitVec 32 := Scalar.extui v498
  let c0_i32_300 : BitVec 32 := 0#32
  let v500 : BitVec 1 := Scalar.cmpi .ne v499 c0_i32_300
  v500

def k0_off87 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_450 : BitVec 32 := 0#32
  let c0_i32_451 : BitVec 32 := 0#32
  ![v2.toNat, 0, 0]
def k0_cond120 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_301 : BitVec 32 := 23#32
  let v501 : BitVec 1 := Scalar.cmpi .slt v2 c23_i32_301
  let v502 : BitVec 32 := Scalar.extui v501
  let c0_i32_302 : BitVec 32 := 0#32
  let v503 : BitVec 1 := Scalar.cmpi .ne v502 c0_i32_302
  v503

def k0_off88 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_450 : BitVec 32 := 0#32
  let c0_i32_451 : BitVec 32 := 0#32
  ![v2.toNat, 0, 0]
def k0_cond121 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_303 : BitVec 32 := 24#32
  let v504 : BitVec 1 := Scalar.cmpi .slt v2 c24_i32_303
  let v505 : BitVec 32 := Scalar.extui v504
  let c0_i32_304 : BitVec 32 := 0#32
  let v506 : BitVec 1 := Scalar.cmpi .ne v505 c0_i32_304
  v506

def k0_off89 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_450 : BitVec 32 := 0#32
  let c0_i32_451 : BitVec 32 := 0#32
  ![v2.toNat, 0, 0]
def k0_cond122 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_305 : BitVec 32 := 25#32
  let v507 : BitVec 1 := Scalar.cmpi .slt v2 c25_i32_305
  let v508 : BitVec 32 := Scalar.extui v507
  let c0_i32_306 : BitVec 32 := 0#32
  let v509 : BitVec 1 := Scalar.cmpi .ne v508 c0_i32_306
  v509

def k0_off90 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_450 : BitVec 32 := 0#32
  let c0_i32_451 : BitVec 32 := 0#32
  ![v2.toNat, 0, 0]
def k0_cond123 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_307 : BitVec 32 := 26#32
  let v510 : BitVec 1 := Scalar.cmpi .slt v2 c26_i32_307
  let v511 : BitVec 32 := Scalar.extui v510
  let c0_i32_308 : BitVec 32 := 0#32
  let v512 : BitVec 1 := Scalar.cmpi .ne v511 c0_i32_308
  v512

def k0_off91 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_450 : BitVec 32 := 0#32
  let c0_i32_451 : BitVec 32 := 0#32
  ![v2.toNat, 0, 0]
def k0_cond124 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_309 : BitVec 32 := 27#32
  let v513 : BitVec 1 := Scalar.cmpi .slt v2 c27_i32_309
  let v514 : BitVec 32 := Scalar.extui v513
  let c0_i32_310 : BitVec 32 := 0#32
  let v515 : BitVec 1 := Scalar.cmpi .ne v514 c0_i32_310
  v515

def k0_off92 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_450 : BitVec 32 := 0#32
  let c0_i32_451 : BitVec 32 := 0#32
  ![v2.toNat, 0, 0]
def k0_cond125 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_311 : BitVec 32 := 28#32
  let v516 : BitVec 1 := Scalar.cmpi .slt v2 c28_i32_311
  let v517 : BitVec 32 := Scalar.extui v516
  let c0_i32_312 : BitVec 32 := 0#32
  let v518 : BitVec 1 := Scalar.cmpi .ne v517 c0_i32_312
  v518

def k0_off93 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_450 : BitVec 32 := 0#32
  let c0_i32_451 : BitVec 32 := 0#32
  ![v2.toNat, 0, 0]
def k0_cond126 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_313 : BitVec 32 := 29#32
  let v519 : BitVec 1 := Scalar.cmpi .slt v2 c29_i32_313
  let v520 : BitVec 32 := Scalar.extui v519
  let c0_i32_314 : BitVec 32 := 0#32
  let v521 : BitVec 1 := Scalar.cmpi .ne v520 c0_i32_314
  v521

def k0_off94 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_450 : BitVec 32 := 0#32
  let c0_i32_451 : BitVec 32 := 0#32
  ![v2.toNat, 0, 0]
def k0_cond127 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_315 : BitVec 32 := 30#32
  let v522 : BitVec 1 := Scalar.cmpi .slt v2 c30_i32_315
  let v523 : BitVec 32 := Scalar.extui v522
  let c0_i32_316 : BitVec 32 := 0#32
  let v524 : BitVec 1 := Scalar.cmpi .ne v523 c0_i32_316
  v524

def k0_off95 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_450 : BitVec 32 := 0#32
  let c0_i32_451 : BitVec 32 := 0#32
  ![v2.toNat, 0, 0]
def k0_cond128 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_317 : BitVec 32 := 31#32
  let v525 : BitVec 1 := Scalar.cmpi .slt v2 c31_i32_317
  let v526 : BitVec 32 := Scalar.extui v525
  let c0_i32_318 : BitVec 32 := 0#32
  let v527 : BitVec 1 := Scalar.cmpi .ne v526 c0_i32_318
  v527

def k0_off96 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_450 : BitVec 32 := 0#32
  let c0_i32_451 : BitVec 32 := 0#32
  ![v2.toNat, 0, 0]
def k0_cond129 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_319 : BitVec 32 := 0#32
  let v528 : BitVec 1 := Scalar.cmpi .sgt v2 c0_i32_319
  let v529 : BitVec 32 := Scalar.extui v528
  let c0_i32_320 : BitVec 32 := 0#32
  let v530 : BitVec 1 := Scalar.cmpi .ne v529 c0_i32_320
  v530

def k0_dev65 : Nat :=
  let c0_i32_450 : BitVec 32 := 0#32
  let c0_i32_448 : BitVec 32 := 0#32
  let c1_i32_449 : BitVec 32 := 1#32
  let v720 : BitVec 32 := Scalar.muli c0_i32_448 c1_i32_449
  let v721 : BitVec 32 := Scalar.addi c0_i32_450 v720
  v721.toNat
def k0_cond130 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_321 : BitVec 32 := 1#32
  let v531 : BitVec 1 := Scalar.cmpi .sgt v2 c1_i32_321
  let v532 : BitVec 32 := Scalar.extui v531
  let c0_i32_322 : BitVec 32 := 0#32
  let v533 : BitVec 1 := Scalar.cmpi .ne v532 c0_i32_322
  v533

def k0_dev66 : Nat :=
  let c0_i32_450 : BitVec 32 := 0#32
  let c1_i32_448 : BitVec 32 := 1#32
  let c1_i32_449 : BitVec 32 := 1#32
  let v720 : BitVec 32 := Scalar.muli c1_i32_448 c1_i32_449
  let v721 : BitVec 32 := Scalar.addi c0_i32_450 v720
  v721.toNat
def k0_cond131 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_323 : BitVec 32 := 2#32
  let v534 : BitVec 1 := Scalar.cmpi .sgt v2 c2_i32_323
  let v535 : BitVec 32 := Scalar.extui v534
  let c0_i32_324 : BitVec 32 := 0#32
  let v536 : BitVec 1 := Scalar.cmpi .ne v535 c0_i32_324
  v536

def k0_dev67 : Nat :=
  let c0_i32_450 : BitVec 32 := 0#32
  let c2_i32_448 : BitVec 32 := 2#32
  let c1_i32_449 : BitVec 32 := 1#32
  let v720 : BitVec 32 := Scalar.muli c2_i32_448 c1_i32_449
  let v721 : BitVec 32 := Scalar.addi c0_i32_450 v720
  v721.toNat
def k0_cond132 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_325 : BitVec 32 := 3#32
  let v537 : BitVec 1 := Scalar.cmpi .sgt v2 c3_i32_325
  let v538 : BitVec 32 := Scalar.extui v537
  let c0_i32_326 : BitVec 32 := 0#32
  let v539 : BitVec 1 := Scalar.cmpi .ne v538 c0_i32_326
  v539

def k0_dev68 : Nat :=
  let c0_i32_450 : BitVec 32 := 0#32
  let c3_i32_448 : BitVec 32 := 3#32
  let c1_i32_449 : BitVec 32 := 1#32
  let v720 : BitVec 32 := Scalar.muli c3_i32_448 c1_i32_449
  let v721 : BitVec 32 := Scalar.addi c0_i32_450 v720
  v721.toNat
def k0_cond133 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_327 : BitVec 32 := 4#32
  let v540 : BitVec 1 := Scalar.cmpi .sgt v2 c4_i32_327
  let v541 : BitVec 32 := Scalar.extui v540
  let c0_i32_328 : BitVec 32 := 0#32
  let v542 : BitVec 1 := Scalar.cmpi .ne v541 c0_i32_328
  v542

def k0_dev69 : Nat :=
  let c0_i32_450 : BitVec 32 := 0#32
  let c4_i32_448 : BitVec 32 := 4#32
  let c1_i32_449 : BitVec 32 := 1#32
  let v720 : BitVec 32 := Scalar.muli c4_i32_448 c1_i32_449
  let v721 : BitVec 32 := Scalar.addi c0_i32_450 v720
  v721.toNat
def k0_cond134 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_329 : BitVec 32 := 5#32
  let v543 : BitVec 1 := Scalar.cmpi .sgt v2 c5_i32_329
  let v544 : BitVec 32 := Scalar.extui v543
  let c0_i32_330 : BitVec 32 := 0#32
  let v545 : BitVec 1 := Scalar.cmpi .ne v544 c0_i32_330
  v545

def k0_dev70 : Nat :=
  let c0_i32_450 : BitVec 32 := 0#32
  let c5_i32_448 : BitVec 32 := 5#32
  let c1_i32_449 : BitVec 32 := 1#32
  let v720 : BitVec 32 := Scalar.muli c5_i32_448 c1_i32_449
  let v721 : BitVec 32 := Scalar.addi c0_i32_450 v720
  v721.toNat
def k0_cond135 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_331 : BitVec 32 := 6#32
  let v546 : BitVec 1 := Scalar.cmpi .sgt v2 c6_i32_331
  let v547 : BitVec 32 := Scalar.extui v546
  let c0_i32_332 : BitVec 32 := 0#32
  let v548 : BitVec 1 := Scalar.cmpi .ne v547 c0_i32_332
  v548

def k0_dev71 : Nat :=
  let c0_i32_450 : BitVec 32 := 0#32
  let c6_i32_448 : BitVec 32 := 6#32
  let c1_i32_449 : BitVec 32 := 1#32
  let v720 : BitVec 32 := Scalar.muli c6_i32_448 c1_i32_449
  let v721 : BitVec 32 := Scalar.addi c0_i32_450 v720
  v721.toNat
def k0_cond136 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_333 : BitVec 32 := 7#32
  let v549 : BitVec 1 := Scalar.cmpi .sgt v2 c7_i32_333
  let v550 : BitVec 32 := Scalar.extui v549
  let c0_i32_334 : BitVec 32 := 0#32
  let v551 : BitVec 1 := Scalar.cmpi .ne v550 c0_i32_334
  v551

def k0_dev72 : Nat :=
  let c0_i32_450 : BitVec 32 := 0#32
  let c7_i32_448 : BitVec 32 := 7#32
  let c1_i32_449 : BitVec 32 := 1#32
  let v720 : BitVec 32 := Scalar.muli c7_i32_448 c1_i32_449
  let v721 : BitVec 32 := Scalar.addi c0_i32_450 v720
  v721.toNat
def k0_cond137 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_335 : BitVec 32 := 8#32
  let v552 : BitVec 1 := Scalar.cmpi .sgt v2 c8_i32_335
  let v553 : BitVec 32 := Scalar.extui v552
  let c0_i32_336 : BitVec 32 := 0#32
  let v554 : BitVec 1 := Scalar.cmpi .ne v553 c0_i32_336
  v554

def k0_dev73 : Nat :=
  let c0_i32_450 : BitVec 32 := 0#32
  let c8_i32_448 : BitVec 32 := 8#32
  let c1_i32_449 : BitVec 32 := 1#32
  let v720 : BitVec 32 := Scalar.muli c8_i32_448 c1_i32_449
  let v721 : BitVec 32 := Scalar.addi c0_i32_450 v720
  v721.toNat
def k0_cond138 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_337 : BitVec 32 := 9#32
  let v555 : BitVec 1 := Scalar.cmpi .sgt v2 c9_i32_337
  let v556 : BitVec 32 := Scalar.extui v555
  let c0_i32_338 : BitVec 32 := 0#32
  let v557 : BitVec 1 := Scalar.cmpi .ne v556 c0_i32_338
  v557

def k0_dev74 : Nat :=
  let c0_i32_450 : BitVec 32 := 0#32
  let c9_i32_448 : BitVec 32 := 9#32
  let c1_i32_449 : BitVec 32 := 1#32
  let v720 : BitVec 32 := Scalar.muli c9_i32_448 c1_i32_449
  let v721 : BitVec 32 := Scalar.addi c0_i32_450 v720
  v721.toNat
def k0_cond139 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_339 : BitVec 32 := 10#32
  let v558 : BitVec 1 := Scalar.cmpi .sgt v2 c10_i32_339
  let v559 : BitVec 32 := Scalar.extui v558
  let c0_i32_340 : BitVec 32 := 0#32
  let v560 : BitVec 1 := Scalar.cmpi .ne v559 c0_i32_340
  v560

def k0_dev75 : Nat :=
  let c0_i32_450 : BitVec 32 := 0#32
  let c10_i32_448 : BitVec 32 := 10#32
  let c1_i32_449 : BitVec 32 := 1#32
  let v720 : BitVec 32 := Scalar.muli c10_i32_448 c1_i32_449
  let v721 : BitVec 32 := Scalar.addi c0_i32_450 v720
  v721.toNat
def k0_cond140 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_341 : BitVec 32 := 11#32
  let v561 : BitVec 1 := Scalar.cmpi .sgt v2 c11_i32_341
  let v562 : BitVec 32 := Scalar.extui v561
  let c0_i32_342 : BitVec 32 := 0#32
  let v563 : BitVec 1 := Scalar.cmpi .ne v562 c0_i32_342
  v563

def k0_dev76 : Nat :=
  let c0_i32_450 : BitVec 32 := 0#32
  let c11_i32_448 : BitVec 32 := 11#32
  let c1_i32_449 : BitVec 32 := 1#32
  let v720 : BitVec 32 := Scalar.muli c11_i32_448 c1_i32_449
  let v721 : BitVec 32 := Scalar.addi c0_i32_450 v720
  v721.toNat
def k0_cond141 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_343 : BitVec 32 := 12#32
  let v564 : BitVec 1 := Scalar.cmpi .sgt v2 c12_i32_343
  let v565 : BitVec 32 := Scalar.extui v564
  let c0_i32_344 : BitVec 32 := 0#32
  let v566 : BitVec 1 := Scalar.cmpi .ne v565 c0_i32_344
  v566

def k0_dev77 : Nat :=
  let c0_i32_450 : BitVec 32 := 0#32
  let c12_i32_448 : BitVec 32 := 12#32
  let c1_i32_449 : BitVec 32 := 1#32
  let v720 : BitVec 32 := Scalar.muli c12_i32_448 c1_i32_449
  let v721 : BitVec 32 := Scalar.addi c0_i32_450 v720
  v721.toNat
def k0_cond142 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_345 : BitVec 32 := 13#32
  let v567 : BitVec 1 := Scalar.cmpi .sgt v2 c13_i32_345
  let v568 : BitVec 32 := Scalar.extui v567
  let c0_i32_346 : BitVec 32 := 0#32
  let v569 : BitVec 1 := Scalar.cmpi .ne v568 c0_i32_346
  v569

def k0_dev78 : Nat :=
  let c0_i32_450 : BitVec 32 := 0#32
  let c13_i32_448 : BitVec 32 := 13#32
  let c1_i32_449 : BitVec 32 := 1#32
  let v720 : BitVec 32 := Scalar.muli c13_i32_448 c1_i32_449
  let v721 : BitVec 32 := Scalar.addi c0_i32_450 v720
  v721.toNat
def k0_cond143 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_347 : BitVec 32 := 14#32
  let v570 : BitVec 1 := Scalar.cmpi .sgt v2 c14_i32_347
  let v571 : BitVec 32 := Scalar.extui v570
  let c0_i32_348 : BitVec 32 := 0#32
  let v572 : BitVec 1 := Scalar.cmpi .ne v571 c0_i32_348
  v572

def k0_dev79 : Nat :=
  let c0_i32_450 : BitVec 32 := 0#32
  let c14_i32_448 : BitVec 32 := 14#32
  let c1_i32_449 : BitVec 32 := 1#32
  let v720 : BitVec 32 := Scalar.muli c14_i32_448 c1_i32_449
  let v721 : BitVec 32 := Scalar.addi c0_i32_450 v720
  v721.toNat
def k0_cond144 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_349 : BitVec 32 := 15#32
  let v573 : BitVec 1 := Scalar.cmpi .sgt v2 c15_i32_349
  let v574 : BitVec 32 := Scalar.extui v573
  let c0_i32_350 : BitVec 32 := 0#32
  let v575 : BitVec 1 := Scalar.cmpi .ne v574 c0_i32_350
  v575

def k0_dev80 : Nat :=
  let c0_i32_450 : BitVec 32 := 0#32
  let c15_i32_448 : BitVec 32 := 15#32
  let c1_i32_449 : BitVec 32 := 1#32
  let v720 : BitVec 32 := Scalar.muli c15_i32_448 c1_i32_449
  let v721 : BitVec 32 := Scalar.addi c0_i32_450 v720
  v721.toNat
def k0_cond145 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_351 : BitVec 32 := 16#32
  let v576 : BitVec 1 := Scalar.cmpi .sgt v2 c16_i32_351
  let v577 : BitVec 32 := Scalar.extui v576
  let c0_i32_352 : BitVec 32 := 0#32
  let v578 : BitVec 1 := Scalar.cmpi .ne v577 c0_i32_352
  v578

def k0_dev81 : Nat :=
  let c0_i32_450 : BitVec 32 := 0#32
  let c16_i32_448 : BitVec 32 := 16#32
  let c1_i32_449 : BitVec 32 := 1#32
  let v720 : BitVec 32 := Scalar.muli c16_i32_448 c1_i32_449
  let v721 : BitVec 32 := Scalar.addi c0_i32_450 v720
  v721.toNat
def k0_cond146 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_353 : BitVec 32 := 17#32
  let v579 : BitVec 1 := Scalar.cmpi .sgt v2 c17_i32_353
  let v580 : BitVec 32 := Scalar.extui v579
  let c0_i32_354 : BitVec 32 := 0#32
  let v581 : BitVec 1 := Scalar.cmpi .ne v580 c0_i32_354
  v581

def k0_dev82 : Nat :=
  let c0_i32_450 : BitVec 32 := 0#32
  let c17_i32_448 : BitVec 32 := 17#32
  let c1_i32_449 : BitVec 32 := 1#32
  let v720 : BitVec 32 := Scalar.muli c17_i32_448 c1_i32_449
  let v721 : BitVec 32 := Scalar.addi c0_i32_450 v720
  v721.toNat
def k0_cond147 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_355 : BitVec 32 := 18#32
  let v582 : BitVec 1 := Scalar.cmpi .sgt v2 c18_i32_355
  let v583 : BitVec 32 := Scalar.extui v582
  let c0_i32_356 : BitVec 32 := 0#32
  let v584 : BitVec 1 := Scalar.cmpi .ne v583 c0_i32_356
  v584

def k0_dev83 : Nat :=
  let c0_i32_450 : BitVec 32 := 0#32
  let c18_i32_448 : BitVec 32 := 18#32
  let c1_i32_449 : BitVec 32 := 1#32
  let v720 : BitVec 32 := Scalar.muli c18_i32_448 c1_i32_449
  let v721 : BitVec 32 := Scalar.addi c0_i32_450 v720
  v721.toNat
def k0_cond148 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_357 : BitVec 32 := 19#32
  let v585 : BitVec 1 := Scalar.cmpi .sgt v2 c19_i32_357
  let v586 : BitVec 32 := Scalar.extui v585
  let c0_i32_358 : BitVec 32 := 0#32
  let v587 : BitVec 1 := Scalar.cmpi .ne v586 c0_i32_358
  v587

def k0_dev84 : Nat :=
  let c0_i32_450 : BitVec 32 := 0#32
  let c19_i32_448 : BitVec 32 := 19#32
  let c1_i32_449 : BitVec 32 := 1#32
  let v720 : BitVec 32 := Scalar.muli c19_i32_448 c1_i32_449
  let v721 : BitVec 32 := Scalar.addi c0_i32_450 v720
  v721.toNat
def k0_cond149 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_359 : BitVec 32 := 20#32
  let v588 : BitVec 1 := Scalar.cmpi .sgt v2 c20_i32_359
  let v589 : BitVec 32 := Scalar.extui v588
  let c0_i32_360 : BitVec 32 := 0#32
  let v590 : BitVec 1 := Scalar.cmpi .ne v589 c0_i32_360
  v590

def k0_dev85 : Nat :=
  let c0_i32_450 : BitVec 32 := 0#32
  let c20_i32_448 : BitVec 32 := 20#32
  let c1_i32_449 : BitVec 32 := 1#32
  let v720 : BitVec 32 := Scalar.muli c20_i32_448 c1_i32_449
  let v721 : BitVec 32 := Scalar.addi c0_i32_450 v720
  v721.toNat
def k0_cond150 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_361 : BitVec 32 := 21#32
  let v591 : BitVec 1 := Scalar.cmpi .sgt v2 c21_i32_361
  let v592 : BitVec 32 := Scalar.extui v591
  let c0_i32_362 : BitVec 32 := 0#32
  let v593 : BitVec 1 := Scalar.cmpi .ne v592 c0_i32_362
  v593

def k0_dev86 : Nat :=
  let c0_i32_450 : BitVec 32 := 0#32
  let c21_i32_448 : BitVec 32 := 21#32
  let c1_i32_449 : BitVec 32 := 1#32
  let v720 : BitVec 32 := Scalar.muli c21_i32_448 c1_i32_449
  let v721 : BitVec 32 := Scalar.addi c0_i32_450 v720
  v721.toNat
def k0_cond151 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_363 : BitVec 32 := 22#32
  let v594 : BitVec 1 := Scalar.cmpi .sgt v2 c22_i32_363
  let v595 : BitVec 32 := Scalar.extui v594
  let c0_i32_364 : BitVec 32 := 0#32
  let v596 : BitVec 1 := Scalar.cmpi .ne v595 c0_i32_364
  v596

def k0_dev87 : Nat :=
  let c0_i32_450 : BitVec 32 := 0#32
  let c22_i32_448 : BitVec 32 := 22#32
  let c1_i32_449 : BitVec 32 := 1#32
  let v720 : BitVec 32 := Scalar.muli c22_i32_448 c1_i32_449
  let v721 : BitVec 32 := Scalar.addi c0_i32_450 v720
  v721.toNat
def k0_cond152 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_365 : BitVec 32 := 23#32
  let v597 : BitVec 1 := Scalar.cmpi .sgt v2 c23_i32_365
  let v598 : BitVec 32 := Scalar.extui v597
  let c0_i32_366 : BitVec 32 := 0#32
  let v599 : BitVec 1 := Scalar.cmpi .ne v598 c0_i32_366
  v599

def k0_dev88 : Nat :=
  let c0_i32_450 : BitVec 32 := 0#32
  let c23_i32_448 : BitVec 32 := 23#32
  let c1_i32_449 : BitVec 32 := 1#32
  let v720 : BitVec 32 := Scalar.muli c23_i32_448 c1_i32_449
  let v721 : BitVec 32 := Scalar.addi c0_i32_450 v720
  v721.toNat
def k0_cond153 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_367 : BitVec 32 := 24#32
  let v600 : BitVec 1 := Scalar.cmpi .sgt v2 c24_i32_367
  let v601 : BitVec 32 := Scalar.extui v600
  let c0_i32_368 : BitVec 32 := 0#32
  let v602 : BitVec 1 := Scalar.cmpi .ne v601 c0_i32_368
  v602

def k0_dev89 : Nat :=
  let c0_i32_450 : BitVec 32 := 0#32
  let c24_i32_448 : BitVec 32 := 24#32
  let c1_i32_449 : BitVec 32 := 1#32
  let v720 : BitVec 32 := Scalar.muli c24_i32_448 c1_i32_449
  let v721 : BitVec 32 := Scalar.addi c0_i32_450 v720
  v721.toNat
def k0_cond154 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_369 : BitVec 32 := 25#32
  let v603 : BitVec 1 := Scalar.cmpi .sgt v2 c25_i32_369
  let v604 : BitVec 32 := Scalar.extui v603
  let c0_i32_370 : BitVec 32 := 0#32
  let v605 : BitVec 1 := Scalar.cmpi .ne v604 c0_i32_370
  v605

def k0_dev90 : Nat :=
  let c0_i32_450 : BitVec 32 := 0#32
  let c25_i32_448 : BitVec 32 := 25#32
  let c1_i32_449 : BitVec 32 := 1#32
  let v720 : BitVec 32 := Scalar.muli c25_i32_448 c1_i32_449
  let v721 : BitVec 32 := Scalar.addi c0_i32_450 v720
  v721.toNat
def k0_cond155 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_371 : BitVec 32 := 26#32
  let v606 : BitVec 1 := Scalar.cmpi .sgt v2 c26_i32_371
  let v607 : BitVec 32 := Scalar.extui v606
  let c0_i32_372 : BitVec 32 := 0#32
  let v608 : BitVec 1 := Scalar.cmpi .ne v607 c0_i32_372
  v608

def k0_dev91 : Nat :=
  let c0_i32_450 : BitVec 32 := 0#32
  let c26_i32_448 : BitVec 32 := 26#32
  let c1_i32_449 : BitVec 32 := 1#32
  let v720 : BitVec 32 := Scalar.muli c26_i32_448 c1_i32_449
  let v721 : BitVec 32 := Scalar.addi c0_i32_450 v720
  v721.toNat
def k0_cond156 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_373 : BitVec 32 := 27#32
  let v609 : BitVec 1 := Scalar.cmpi .sgt v2 c27_i32_373
  let v610 : BitVec 32 := Scalar.extui v609
  let c0_i32_374 : BitVec 32 := 0#32
  let v611 : BitVec 1 := Scalar.cmpi .ne v610 c0_i32_374
  v611

def k0_dev92 : Nat :=
  let c0_i32_450 : BitVec 32 := 0#32
  let c27_i32_448 : BitVec 32 := 27#32
  let c1_i32_449 : BitVec 32 := 1#32
  let v720 : BitVec 32 := Scalar.muli c27_i32_448 c1_i32_449
  let v721 : BitVec 32 := Scalar.addi c0_i32_450 v720
  v721.toNat
def k0_cond157 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_375 : BitVec 32 := 28#32
  let v612 : BitVec 1 := Scalar.cmpi .sgt v2 c28_i32_375
  let v613 : BitVec 32 := Scalar.extui v612
  let c0_i32_376 : BitVec 32 := 0#32
  let v614 : BitVec 1 := Scalar.cmpi .ne v613 c0_i32_376
  v614

def k0_dev93 : Nat :=
  let c0_i32_450 : BitVec 32 := 0#32
  let c28_i32_448 : BitVec 32 := 28#32
  let c1_i32_449 : BitVec 32 := 1#32
  let v720 : BitVec 32 := Scalar.muli c28_i32_448 c1_i32_449
  let v721 : BitVec 32 := Scalar.addi c0_i32_450 v720
  v721.toNat
def k0_cond158 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_377 : BitVec 32 := 29#32
  let v615 : BitVec 1 := Scalar.cmpi .sgt v2 c29_i32_377
  let v616 : BitVec 32 := Scalar.extui v615
  let c0_i32_378 : BitVec 32 := 0#32
  let v617 : BitVec 1 := Scalar.cmpi .ne v616 c0_i32_378
  v617

def k0_dev94 : Nat :=
  let c0_i32_450 : BitVec 32 := 0#32
  let c29_i32_448 : BitVec 32 := 29#32
  let c1_i32_449 : BitVec 32 := 1#32
  let v720 : BitVec 32 := Scalar.muli c29_i32_448 c1_i32_449
  let v721 : BitVec 32 := Scalar.addi c0_i32_450 v720
  v721.toNat
def k0_cond159 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_379 : BitVec 32 := 30#32
  let v618 : BitVec 1 := Scalar.cmpi .sgt v2 c30_i32_379
  let v619 : BitVec 32 := Scalar.extui v618
  let c0_i32_380 : BitVec 32 := 0#32
  let v620 : BitVec 1 := Scalar.cmpi .ne v619 c0_i32_380
  v620

def k0_dev95 : Nat :=
  let c0_i32_450 : BitVec 32 := 0#32
  let c30_i32_448 : BitVec 32 := 30#32
  let c1_i32_449 : BitVec 32 := 1#32
  let v720 : BitVec 32 := Scalar.muli c30_i32_448 c1_i32_449
  let v721 : BitVec 32 := Scalar.addi c0_i32_450 v720
  v721.toNat
def k0_cond160 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_381 : BitVec 32 := 31#32
  let v621 : BitVec 1 := Scalar.cmpi .sgt v2 c31_i32_381
  let v622 : BitVec 32 := Scalar.extui v621
  let c0_i32_382 : BitVec 32 := 0#32
  let v623 : BitVec 1 := Scalar.cmpi .ne v622 c0_i32_382
  v623

def k0_dev96 : Nat :=
  let c0_i32_450 : BitVec 32 := 0#32
  let c31_i32_448 : BitVec 32 := 31#32
  let c1_i32_449 : BitVec 32 := 1#32
  let v720 : BitVec 32 := Scalar.muli c31_i32_448 c1_i32_449
  let v721 : BitVec 32 := Scalar.addi c0_i32_450 v720
  v721.toNat
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S65536x1024 : Shape := ⟨2, ![65536, 1024]⟩
abbrev S_ : Shape := ⟨0, ![]⟩

abbrev nBuf : Space → Nat
  | .hbm => 4
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S_, .f32⟩
  | .hbm, ⟨2, _⟩ => ⟨S_, .f32⟩
  | .hbm, ⟨3, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_call0_cst : Ref sig .tc := ⟨.hbm, 1, rfl⟩
abbrev main_call0_call0_v0 : Ref sig .tc := ⟨.hbm, 2, rfl⟩
abbrev main_v0 : Ref sig .tc := ⟨.hbm, 3, rfl⟩

abbrev nD : Nat := 1
abbrev τ : Topo := Topo.v7x

variable {F : FTy → Type} [FloatOps F]
-- ==== Proof.Same.lean ====
/- The kernel and its idealization are one text: their bodies, tables and main programs are equal for any float values. -/
module

public import proofs.«01_k».proof.Proof.Gen.Kernel
public import proofs.«01_k».proof.Proof.Gen.KernelIdeal

@[expose] public section

noncomputable section

namespace Cert.Scan

open Idealize.ShloMosaic Idealize.SL.Sem

variable {F : FTy → Type} [FloatOps F]

set_option maxRecDepth 8000 in
/-- The bodies are equal, -/
theorem same_body : Cert.Kernel.cc0_body (F := F) = Cert.KernelIdeal.cc0_body (F := F) := rfl

/-- so are the tables of bodies, -/
theorem same_table : Cert.Kernel.defs₀ (F := F) = Cert.KernelIdeal.defs₀ (F := F) := by
  unfold Cert.Kernel.defs₀ Cert.KernelIdeal.defs₀
  refine congrArg Defs.onTc (funext fun a => funext fun x => ?_)
  match a, x with
  | ⟨0, _⟩, (t, s) =>
    have h := same_body (F := F)
    simp only [h]

/-- the tables with the pipeline's own entries, -/
theorem same_defs : Cert.Kernel.defs (F := F) = Cert.KernelIdeal.defs (F := F) :=
  congrArg (Pipeline.defs (Cert.KernelIdeal.pcfgs (F := F))) same_table

/-- and the main programs. -/
theorem same_main : Cert.Kernel.main (F := F) = Cert.KernelIdeal.main (F := F) := rfl

end Cert.Scan

end
-- ==== Proof.Protocol.lean ====
/- The protocol of the 32-device prefix sum: the buffers and semaphore cells, what each buffer holds, the one round
   every cell runs (who pays it, how much, and what comes with the payment), and the order in which cells are waited on.
   Written over any float values `F`. -/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.ShareLeaves
public import Idealize.ShloMosaic.Lib.Tactic

@[expose] public section

noncomputable section

namespace Cert.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Duties are named by the device that pays them (a send cell's by the device it sends to). -/
abbrev UB := URounds (GSem nD τ sig) (Dev nD)
abbrev UU := UR sig nD τ × UB
local notation "𝕄" => MT nD τ sig Unit (Elt F) ℕ UU ℕ
abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-! ## Buffers -/

/-- The staged block of `x`, the staged block of the result, the eight row sums, the block's sum, the landing buffer
    with one slot per device, and the sum of the earlier devices. -/
abbrev xM : Memref sig .tc .vmem S2048x1024 .f32 := Memref.whole cc0_stg0_0
abbrev oM : Memref sig .tc .vmem S2048x1024 .f32 := Memref.whole cc0_stg1_0
abbrev sM : Memref sig .tc .vmem S8x1024 .f32 := Memref.whole cc0_scratch0
abbrev pM : Memref sig .tc .vmem S1x1024 .f32 := Memref.whole cc0_scratch1
abbrev qM : Memref sig .tc .vmem S32x1x1024 .f32 := Memref.whole cc0_scratch2
abbrev aM : Memref sig .tc .vmem S1x1024 .f32 := Memref.whole cc0_scratch3

theorem slot_inb (j : Fin 32) : ∀ a, (![j.val, 0, 0] : Fin S32x1x1024.rank → ℕ) a + S1x1x1024.size a ≤ S32x1x1024.size a := by
  revert j; decide
theorem sem_inb (j : Fin 32) : ∀ a, (![j.val] : Fin S32.rank → ℕ) a + S1.size a ≤ S32.size a := by
  revert j; decide

/-- The landing buffer's row at an offset, as the program addresses it. -/
abbrev slotAt (off : Fin S32x1x1024.rank → ℕ) (h : ∀ a, off a + S1x1x1024.size a ≤ S32x1x1024.size a) :
    Memref sig .tc .vmem S1x1024 .f32 :=
  (qM.slice (Rect.unit (s := S32x1x1024) off S1x1x1024.size h) (fun _ => rfl)).squeeze S1x1024 squeezes_S1x1x1024_S1x1024

/-- Slot `j` of the landing buffer. -/
abbrev slot (j : Fin 32) : Memref sig .tc .vmem S1x1024 .f32 := slotAt ![j.val, 0, 0] (slot_inb j)

/-- One semaphore of an array of 32, at an offset. -/
abbrev semAt (A : DmaSems sig S32) (off : Fin S32.rank → ℕ) (h : ∀ a, off a + S1.size a ≤ S32.size a) : DmaSem sig :=
  ((A.slice (Rect.unit (s := S32) off S1.size h)).squeeze S_ squeezes_S1_S_).sem

/-! ## Semaphore cells -/

/-- The send semaphore towards device `j`, the receive semaphore of what device `i` sends, the acknowledgement
    semaphore, the barrier semaphore. -/
def sendS (j : Fin 32) : DmaSem sig := semAt cc0_scratch4 ![j.val] (sem_inb j)
def recvS (i : Fin 32) : DmaSem sig := semAt cc0_scratch5 ![i.val] (sem_inb i)
abbrev ackS : Sem sig := cc0_scratch6.sem
abbrev barS : Sem sig := (SemArray.scalar (sig.barrier 0 rfl) : Sems sig S_).sem

abbrev sendCell (c : Dev nD) (j : Fin 32) : GSem nD τ sig := ((c : Thread nD τ), .dma (sendS j))
abbrev recvCell (c : Dev nD) (i : Fin 32) : GSem nD τ sig := ((c : Thread nD τ), .dma (recvS i))
abbrev ackCell (c : Dev nD) : GSem nD τ sig := ((c : Thread nD τ), .reg ackS)
abbrev barCell (c : Dev nD) : GSem nD τ sig := ((c : Thread nD τ), .reg barS)

/-- What a semaphore is used for. -/
inductive Use
  | send (j : Fin 32) | recv (i : Fin 32) | ack | bar | other
  deriving DecidableEq

def useOf : SemLoc sig → Use
  | .reg s => if s = barS then .bar else if s = ackS then .ack else .other
  | .dma q =>
    if h : 2 ≤ q.val ∧ q.val < 34 then .send ⟨q.val - 2, by omega⟩
    else if h : 34 ≤ q.val ∧ q.val < 66 then .recv ⟨q.val - 34, by omega⟩ else .other

theorem use_send (j : Fin 32) : useOf (.dma (sendS j)) = .send j := by revert j; decide +kernel
theorem use_recv (i : Fin 32) : useOf (.dma (recvS i)) = .recv i := by revert i; decide +kernel
theorem use_ack : useOf (.reg ackS) = .ack := by decide +kernel
theorem use_bar : useOf (.reg barS) = .bar := by decide +kernel

/-- The bytes of one slot, the amount one transfer adds. -/
abbrev N : ℕ := pM.view.dmaCredit
theorem N_pos : 0 < N := View.dmaCredit_pos _ (by decide)
theorem slot_credit (off h) : (slotAt off h).view.dmaCredit = N := rfl

/-! ## Contents -/

/-- Device `c`'s block of `x`, as staged. -/
def xv (c : Dev nD) : Vec F S2048x1024 .f32 :=
  (win0_0.blk (0 : Fin 1)).view.read (Elt F) ((s₀ m ρ).mem ((c : Thread nD τ).loc main_arg0))

theorem blk_inb (b : Fin 8) : ∀ a, (![256 * b.val, 0] : Fin S2048x1024.rank → ℕ) a + S256x1024.size a ≤ S2048x1024.size a := by
  revert b; decide
theorem row_inb (b : Fin 8) : ∀ a, (![b.val, 0] : Fin S8x1024.rank → ℕ) a + S1x1024.size a ≤ S8x1024.size a := by
  revert b; decide

/-- Rows `256 b` to `256 b + 255` of a block of 2048 rows. -/
def blk (v : Vec F S2048x1024 .f32) (b : Fin 8) : Vec F S256x1024 .f32 :=
  xM.view.readAt (Elt F) (Rect.unit (s := S2048x1024) ![256 * b.val, 0] S256x1024.size (blk_inb b)).toLoadRect v

/-- The index of one column of a row, and of one element of a block of 256 rows. -/
def ixr (b : Fin 1024) : S1x1024.Idx := fun k => match k with | ⟨0, _⟩ => (0 : Fin 1) | ⟨1, _⟩ => b
def ixb (a : Fin 256) (b : Fin 1024) : S256x1024.Idx := fun k => match k with | ⟨0, _⟩ => a | ⟨1, _⟩ => b

/-- Row `b` of the eight row sums: the sum of the 256 rows of block `b`. -/
def sv (c : Dev nD) : Vec F S8x1024 .f32 := fun i => k0_pay1 (blk (xv m ρ c) (i 0)) (ixr (i 1))

/-- The sum of all 2048 rows of device `c`'s block. -/
def pv (c : Dev nD) : Vec F S1x1024 .f32 := k0_pay9 (sv m ρ c)

/-- Adding one landed sum. -/
def accAdd (a w : Vec F S1x1024 .f32) : Vec F S1x1024 .f32 :=
  k0_pay28 a (fun i => w (Shape.reshapeEquiv (by decide : S1x1024.ShapeCasts S1x1x1024) i))

/-- The accumulator after looking at the first `n` devices: zeros, and the sum of each earlier device added in order. -/
def av (c : Dev nD) : ℕ → Vec F S1x1024 .f32
  | 0 => k0_pay11
  | n + 1 => if h : n < c.val then accAdd (av c n) (pv m ρ ⟨n, lt_trans h c.isLt⟩) else av c n

/-- Row `b` of an array of eight rows. -/
def rowOf (v : Vec F S8x1024 .f32) (b : Fin 8) : Vec F S1x1024 .f32 :=
  sM.view.readAt (Elt F) (Rect.unit (s := S8x1024) ![b.val, 0] S1x1024.size (row_inb b)).toLoadRect v

/-- The sum of the first `n` row sums, added in order from zeros. -/
def prefv (c : Dev nD) : ℕ → Vec F S1x1024 .f32
  | 0 => k0_pay13
  | n + 1 => if h : n < 8 then k0_pay15 (prefv c n) (rowOf (sv m ρ c) ⟨n, h⟩) else prefv c n

/-- One block of the result before the other devices' sums come in: the lower triangle of ones times the block,
    plus the same row added to every row. -/
def blockOut (P : Vec F S1x1024 .f32) (v : Vec F S256x1024 .f32) : Vec F S256x1024 .f32 :=
  addf (matmul dot_S256x256_S256x1024_S256x1024_1_0_0_1_n_n none (k0_pay12 (F := F))
      (shapeCast S256x1024 v shapeCasts_S256x1024_S256x1024) (constant S256x1024 .f32 0x00000000#32))
    (broadcastTo S256x1024 P broadcasts_S1x1024_S256x1024)

theorem row_div (i : Fin 2048) : i.val / 256 < 8 := by omega
theorem row_mod (i : Fin 2048) : i.val % 256 < 256 := by omega

/-- The device's own prefix sums. -/
def ov (c : Dev nD) : Vec F S2048x1024 .f32 := fun i =>
  blockOut (prefv m ρ c ((i 0).val / 256)) (blk (xv m ρ c) ⟨(i 0).val / 256, row_div (i 0)⟩) (ixb ⟨(i 0).val % 256, row_mod (i 0)⟩ (i 1))

/-- What device `c` returns: its own prefix sums plus the sum of the earlier devices. -/
def outv (c : Dev nD) : Vec F S2048x1024 .f32 := k0_pay60 (ov m ρ c) (av m ρ c 32)

/-! ## What the cells hand over -/

/-- Slot `j` of device `c`'s landing buffer, holding `f`. -/
def slotPts (c : Dev nD) (j : Fin 32) (f : Buf (Elt F) ((slot j).view.loc (c : Thread nD τ))) : sProp 𝕄 :=
  (slot j).view.loc (c : Thread nD τ) ↦[(slot j).view.set]{fullShare} f
/-- Slot `j` of device `c`'s landing buffer, holding anything. -/
def slotAny (c : Dev nD) (j : Fin 32) : sProp 𝕄 := iprop(∃ f, slotPts c j f)
/-- Slot `i` of device `c`'s landing buffer, holding device `i`'s sum. -/
def slotFull (c : Dev nD) (i : Fin 32) : sProp 𝕄 :=
  iprop(∃ f, ⌜(slot i).view.read (Elt F) f = pv m ρ i⌝ ∗ slotPts c i f)

/-- The `j`-th of 32 equal shares of device `c`'s own sum. -/
def pShare (c : Dev nD) (j : Fin 32) : sProp 𝕄 :=
  (pM.view.loc (c : Thread nD τ) ↦[pM.view.set]{ShareLeaves.leaf 5 fullShare j} pv m ρ c)

instance slotPts_storable (c j f) : BI.Storable (upEmb : UEmb _ 𝕄) (slotPts (F := F) c j f) := by unfold slotPts; infer_instance
instance slotAny_storable (c j) : BI.Storable (upEmb : UEmb _ 𝕄) (slotAny (F := F) c j) := by unfold slotAny; infer_instance
instance slotFull_storable (c i) : BI.Storable (upEmb : UEmb _ 𝕄) (slotFull (F := F) m ρ c i) := by unfold slotFull; infer_instance
instance pShare_storable (c j) : BI.Storable (upEmb : UEmb _ 𝕄) (pShare (F := F) m ρ c j) := by unfold pShare; infer_instance

/-! ## The round of each cell -/

/-- Who pays a cell of device `c`: a send cell its own transfer to a later device; a receive cell the earlier device it
    is for; the acknowledgement cell every later device; the barrier cell every other device. -/
def dutyOf (c : Dev nD) : Use → Finset (Dev nD)
  | .send j => if c < j then {j} else ∅
  | .recv i => if i < c then {i} else ∅
  | .ack => Finset.univ.filter (c < ·)
  | .bar => Finset.univ.filter (· ≠ c)
  | .other => ∅
def amtOf : Use → ℕ
  | .send _ => N | .recv _ => N | _ => 1
/-- What comes with a payment: a send cell gives the share of the sum back, a receive cell the filled slot; a later
    device's barrier signal hands over the slot it keeps for `c`. -/
def payOf (c : Dev nD) (d : Dev nD) : Use → sProp 𝕄
  | .send j => pShare m ρ c j
  | .recv i => slotFull m ρ c i
  | .bar => if c < d then slotAny d c else iprop(emp)
  | _ => iprop(emp)

/-- Every cell runs one round. -/
def sched : Rounds.Schedule (GSem nD τ sig) (Dev nD) 𝕄 where
  duties g r := if r = 0 ∧ g.1.2 = .tc then dutyOf g.1.1 (useOf g.2) else ∅
  unitless _ := False
  amount g _ _ := amtOf (useOf g.2)
  payload g _ d := payOf m ρ g.1.1 d (useOf g.2)
  amount_pos g _ _ _ := by cases useOf g.2 <;> first | exact N_pos | exact Nat.one_pos

instance sched_payload_storable (g : GSem nD τ sig) (r : ℕ) (d : Dev nD) :
    BI.Storable (upEmb : UEmb _ 𝕄) ((sched (F := F) m ρ).payload g r d) := by
  show BI.Storable upEmb (payOf m ρ g.1.1 d (useOf g.2))
  cases useOf g.2 <;> dsimp only [payOf] <;> (repeat' split) <;> infer_instance

section Tables
variable (c : Dev nD)

theorem duties_eq (sm : SemLoc sig) : (sched (F := F) m ρ).duties ((c : Thread nD τ), sm) 0 = dutyOf c (useOf sm) := by
  dsimp only [sched]; exact if_pos ⟨rfl, rfl⟩
theorem duties_later (g : GSem nD τ sig) : ∀ r, 1 ≤ r → (sched (F := F) m ρ).duties g r = ∅ :=
  fun r hr => by dsimp only [sched]; exact if_neg fun h => by omega
theorem amount_eq (sm : SemLoc sig) (d : Dev nD) : (sched (F := F) m ρ).amount ((c : Thread nD τ), sm) 0 d = amtOf (useOf sm) := rfl
theorem payload_eq (sm : SemLoc sig) (d : Dev nD) : (sched (F := F) m ρ).payload ((c : Thread nD τ), sm) 0 d = payOf m ρ c d (useOf sm) := rfl
theorem expect_eq (sm : SemLoc sig) : (sched (F := F) m ρ).expect ((c : Thread nD τ), sm) 0 = (dutyOf c (useOf sm)).card * amtOf (useOf sm) := by
  unfold Schedule.expect Schedule.amountOf
  rw [duties_eq, Finset.sum_congr rfl fun d _ => amount_eq m ρ c sm d, Finset.sum_const, smul_eq_mul]

end Tables

/-! ## What is owed, and the order of waiting -/

/-- The part of a sum over devices that is left from device `n` on. -/
def rest {T : Type} [AddCommMonoid T] (f : Fin 32 → T) (n : ℕ) : T := ∑ j, if n ≤ j.val then f j else 0

theorem rest_step {T : Type} [AddCommMonoid T] (f : Fin 32 → T) (n : ℕ) (h : n < 32) : rest f n = rest f (n + 1) + f ⟨n, h⟩ := by
  unfold rest
  rw [← Finset.sum_erase_add _ _ (Finset.mem_univ (⟨n, h⟩ : Fin 32)), ← Finset.sum_erase_add (a := (⟨n, h⟩ : Fin 32)) _ (fun j : Fin 32 => if n + 1 ≤ j.val then f j else 0) (Finset.mem_univ _),
    if_pos (le_refl n), if_neg (by simp), add_zero]
  congr 1
  refine Finset.sum_congr rfl fun j hj => ?_
  have : j.val ≠ n := fun e => (Finset.mem_erase.mp hj).1 (Fin.ext e)
  by_cases h1 : n ≤ j.val
  · rw [if_pos h1, if_pos (by omega)]
  · rw [if_neg h1, if_neg (by omega)]
theorem rest_end {T : Type} [AddCommMonoid T] (f : Fin 32 → T) : rest f 32 = 0 :=
  Finset.sum_eq_zero fun j _ => if_neg (by omega)
theorem rest_zero {T : Type} [AddCommMonoid T] (f : Fin 32 → T) : rest f 0 = ∑ j, f j :=
  Finset.sum_congr rfl fun j _ => if_pos (Nat.zero_le _)

abbrev Tl := CellTallies nD τ sig Unit

/-- What device `c` owes device `j`: a barrier signal, a transfer, an acknowledgement. -/
def barO (c : Dev nD) (j : Fin 32) : Tl := if c ≠ j then tallyAt (barCell j) () 1 else 0
def recvO (c : Dev nD) (j : Fin 32) : Tl := if c < j then tallyAt (recvCell j c) () N else 0
def ackO (c : Dev nD) (j : Fin 32) : Tl := if j < c then tallyAt (ackCell j) () 1 else 0
/-- All that device `c` owes at the start. -/
def O₀ (c : Dev nD) : Tl := rest (barO c) 0 + (rest (recvO c) 0 + rest (ackO c) 0)

def L (g : GSem nD τ sig) : Finset Unit := if g.1.2 = .tc then {()} else ∅
/-- Barrier cells come first, then receive cells, then acknowledgement cells; nobody owes the rest. -/
def lv (g : GSem nD τ sig) (_ : Unit) : ℕ := match useOf g.2 with | .bar => 1 | .recv _ => 2 | .ack => 3 | _ => 0

theorem L_of_ne (g : GSem nD τ sig) (h : g.1.2 ≠ .tc) : L g = ∅ := if_neg h
theorem L_tc (c : Dev nD) (sm : SemLoc sig) : L ((c : Thread nD τ), sm) = {()} := if_pos rfl

/-- Everything owed lies above level `n`. -/
def Above (n : ℕ) (O : Tl) : Prop := ∀ g u, 0 < O g u → g.1.2 = .tc ∧ n < lv g u

theorem above_zero (n : ℕ) : Above n 0 := fun g u h => absurd h (Nat.lt_irrefl 0)
theorem above_add {n : ℕ} {A B : Tl} (hA : Above n A) (hB : Above n B) : Above n (A + B) := fun g u h => by
  rw [Pi.add_apply, Finsupp.add_apply] at h
  by_cases hz : 0 < A g u
  · exact hA g u hz
  · exact hB g u (by omega)
theorem above_tally {n : ℕ} {c : Dev nD} {sm : SemLoc sig} {k : ℕ} (h : n < lv ((c : Thread nD τ), sm) ()) :
    Above n (tallyAt ((c : Thread nD τ), sm) () k) := fun g u hg => by
  rw [tallyAt_apply] at hg
  by_cases e : g = ((c : Thread nD τ), sm) ∧ u = ()
  · rw [e.1]; exact ⟨rfl, h⟩
  · rw [if_neg e] at hg; exact absurd hg (Nat.lt_irrefl 0)
theorem above_rest {n : ℕ} {f : Fin 32 → Tl} (h : ∀ j, Above n (f j)) (k : ℕ) : Above n (rest f k) := by
  unfold rest
  refine Finset.sum_induction _ (Above n) (fun _ _ => above_add) (above_zero n) fun j _ => ?_
  split
  · exact h j
  · exact above_zero n

theorem lv_bar (c : Dev nD) : lv (barCell c) () = 1 := by unfold lv; rw [use_bar]
theorem lv_recv (c : Dev nD) (i) : lv (recvCell c i) () = 2 := by unfold lv; rw [use_recv]
theorem lv_ack (c : Dev nD) : lv (ackCell c) () = 3 := by unfold lv; rw [use_ack]
theorem lv_send (c : Dev nD) (j) : lv (sendCell c j) () = 0 := by unfold lv; rw [use_send]

theorem above_bar {n : ℕ} (h : n < 1) (c : Dev nD) (k : ℕ) : Above n (rest (barO c) k) := above_rest (fun j => by
  unfold barO; split
  · exact above_tally (by rw [lv_bar]; exact h)
  · exact above_zero n) k
theorem above_recv {n : ℕ} (h : n < 2) (c : Dev nD) (k : ℕ) : Above n (rest (recvO c) k) := above_rest (fun j => by
  unfold recvO; split
  · exact above_tally (by rw [lv_recv]; exact h)
  · exact above_zero n) k
theorem above_ack {n : ℕ} (h : n < 3) (c : Dev nD) (k : ℕ) : Above n (rest (ackO c) k) := above_rest (fun j => by
  unfold ackO; split
  · exact above_tally (by rw [lv_ack]; exact h)
  · exact above_zero n) k

/-- A device may wait on a cell when everything it owes lies above that cell's level. -/
theorem mayWait_of_above (c : Dev nD) (sm : SemLoc sig) (O : Tl) (h : Above (lv ((c : Thread nD τ), sm) ()) O) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp]) (fun g u hg => (h g u hg).2)

/-! ## One resource per device, exchanged one after the other -/

/-- `A j` for the devices before `n`, `B j` for the others. -/
def phase (B A : Fin 32 → sProp 𝕄) (n : ℕ) : sProp 𝕄 := bigSep Finset.univ fun j : Fin 32 => if j.val < n then A j else B j

/-- All but device `n`'s. -/
def others (B A : Fin 32 → sProp 𝕄) (n : ℕ) (h : n < 32) : sProp 𝕄 :=
  bigSep (Finset.univ.erase (⟨n, h⟩ : Fin 32)) fun j : Fin 32 => if j.val < n then A j else B j

theorem phase_pre (B A : Fin 32 → sProp 𝕄) (n : ℕ) (h : n < 32) : phase B A n = iprop(B ⟨n, h⟩ ∗ others B A n h) := by
  unfold phase others; rw [bigSep_univ_at _ (⟨n, h⟩ : Fin 32), if_neg (Nat.lt_irrefl n)]
theorem phase_post (B A : Fin 32 → sProp 𝕄) (n : ℕ) (h : n < 32) : phase B A (n + 1) = iprop(A ⟨n, h⟩ ∗ others B A n h) := by
  unfold phase others; rw [bigSep_univ_at _ (⟨n, h⟩ : Fin 32), if_pos (Nat.lt_succ_self n)]
  congr 1
  refine bigSep_congr fun j hj => ?_
  have : j.val ≠ n := fun e => (Finset.mem_erase.mp hj).1 (Fin.ext e)
  by_cases h1 : j.val < n
  · rw [if_pos h1, if_pos (by omega)]
  · rw [if_neg h1, if_neg (by omega)]
theorem phase_zero (B A : Fin 32 → sProp 𝕄) : phase B A 0 = bigSep Finset.univ B :=
  bigSep_congr fun j _ => if_neg (Nat.not_lt_zero _)
theorem phase_end (B A : Fin 32 → sProp 𝕄) : phase B A 32 = bigSep Finset.univ A :=
  bigSep_congr fun j _ => if_pos j.isLt

end Cert.Scan
-- ==== Proof.Steps.lean ====
/- The steps of the protocol: each conditional signal, transfer, wait and accumulation of the program, as one lemma that
   takes the state before the step for device `n` to the state before the step for device `n + 1`. -/
module

public import proofs.«01_k».proof.Proof.Protocol

@[expose] public section

noncomputable section

namespace Cert.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## All cells and their invariants -/

/-- A device's own cells (send, receive, acknowledgement), and with them its barrier cell. -/
abbrev OwnIx := (Fin 32 ⊕ Fin 32) ⊕ Unit
abbrev CellIx := OwnIx ⊕ Unit
abbrev osem : OwnIx → SemLoc sig
  | .inl (.inl j) => .dma (sendS j)
  | .inl (.inr i) => .dma (recvS i)
  | .inr _ => .reg ackS
abbrev csem : CellIx → SemLoc sig
  | .inl k => osem k
  | .inr _ => .reg barS
abbrev kcell (x : Dev nD × CellIx) : GSem nD τ sig := ((x.1 : Thread nD τ), csem x.2)
abbrev kSend (j : Fin 32) : CellIx := .inl (.inl (.inl j))
abbrev kRecv (i : Fin 32) : CellIx := .inl (.inl (.inr i))
abbrev kAck : CellIx := .inl (.inr ())
abbrev kBar : CellIx := .inr ()

variable (K : Dev nD × CellIx → ℕ)

/-- Every cell's invariant, every cell's round 0, and the levels: facts every device keeps. -/
def recs : sProp 𝕄 :=
  iprop((bigSep Finset.univ fun x : Dev nD × CellIx => cellInv ER (sched m ρ) (K x) (kcell x))
    ∗ (bigSep Finset.univ fun x : Dev nD × CellIx => reached ER (kcell x) 0) ∗ (levAts L lv : sProp 𝕄))

instance recs_persistent : BI.Persistent (recs (F := F) m ρ K) := by unfold recs; infer_instance

theorem recs_inv (x : Dev nD × CellIx) : recs (F := F) m ρ K ⊢ cellInv ER (sched m ρ) (K x) (kcell x) := by
  unfold recs
  iintro ⟨H, -⟩
  iapply (show (bigSep Finset.univ fun x : Dev nD × CellIx => cellInv ER (sched m ρ) (K x) (kcell x)) ⊢ (cellInv ER (sched m ρ) (K x) (kcell x) : sProp 𝕄)
    from bigSep_elim (Finset.mem_univ x)) $$ H
theorem recs_reached (x : Dev nD × CellIx) : recs (F := F) m ρ K ⊢ reached ER (kcell x) 0 := by
  unfold recs
  iintro ⟨-, H, -⟩
  iapply (show (bigSep Finset.univ fun x : Dev nD × CellIx => reached ER (kcell x) 0) ⊢ (reached ER (kcell x) 0 : sProp 𝕄)
    from bigSep_elim (Finset.mem_univ x)) $$ H
theorem recs_lev : recs (F := F) m ρ K ⊢ (levAts L lv : sProp 𝕄) := by
  unfold recs
  iintro ⟨-, -, H⟩
  iexact H

/-- A device may wait on a cell when everything it owes lies above that cell's level. -/
theorem may_wait (c : Dev nD) (sm : SemLoc sig) (O : Tl) (h : Above (lv ((c : Thread nD τ), sm) ()) O) :
    recs (F := F) m ρ K ⊢ (MayWait (c : Thread nD τ) sm () O : sProp 𝕄) := by
  unfold recs
  iintro ⟨-, -, H⟩
  iapply (mayWait_of_above c sm O h) $$ H

theorem inv_bar (d : Dev nD) : recs (F := F) m ρ K ⊢ cellInv ER (sched m ρ) (K (d, kBar)) (barCell d) := recs_inv m ρ K (d, kBar)
theorem inv_ack (d : Dev nD) : recs (F := F) m ρ K ⊢ cellInv ER (sched m ρ) (K (d, kAck)) (ackCell d) := recs_inv m ρ K (d, kAck)
theorem inv_send (d : Dev nD) (j) : recs (F := F) m ρ K ⊢ cellInv ER (sched m ρ) (K (d, kSend j)) (sendCell d j) := recs_inv m ρ K (d, kSend j)
theorem inv_recv (d : Dev nD) (i) : recs (F := F) m ρ K ⊢ cellInv ER (sched m ρ) (K (d, kRecv i)) (recvCell d i) := recs_inv m ρ K (d, kRecv i)
theorem reached_bar (d : Dev nD) : recs (F := F) m ρ K ⊢ reached ER (barCell d) 0 := recs_reached m ρ K (d, kBar)
theorem reached_ack (d : Dev nD) : recs (F := F) m ρ K ⊢ reached ER (ackCell d) 0 := recs_reached m ρ K (d, kAck)
theorem reached_send (d : Dev nD) (j) : recs (F := F) m ρ K ⊢ reached ER (sendCell d j) 0 := recs_reached m ρ K (d, kSend j)
theorem reached_recv (d : Dev nD) (i) : recs (F := F) m ρ K ⊢ reached ER (recvCell d i) 0 := recs_reached m ρ K (d, kRecv i)

abbrev 𝒱₀ : Variants := Variants.none

/-- The weakest precondition of a piece of device `c`'s program. -/
def WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Device `c` owes `O`. -/
def OW (c : Dev nD) (O : Tl) : sProp 𝕄 := iprop(∃ W, owes (c : Thread nD τ) O W)

/-! ## The barrier signals -/

section Sig
variable (c : Dev nD)

def sigB (j : Fin 32) : sProp 𝕄 := iprop(dutyTok ER (barCell j) 0 c ∗ slotAny c j)
def sigA (j : Fin 32) : sProp 𝕄 := if c ≤ j then slotAny c j else iprop(emp)

def stSig (Fr : sProp 𝕄) (R : Tl) (n : ℕ) : sProp 𝕄 :=
  iprop(recs m ρ K ∗ Fr ∗ OW c (rest (barO c) n + R) ∗ phase (sigB c) (sigA c) n)

/-- A signal to an earlier device takes the slot along, one to a later device leaves it. -/
theorem slot_part (j : Fin 32) :
    (slotAny c j : sProp 𝕄) ⊢ iprop((sched (F := F) m ρ).payload (barCell j) 0 c ∗ sigA c j) := by
  rw [payload_eq, use_bar]
  unfold sigA
  dsimp only [payOf]
  iintro H
  by_cases hl : j < c
  · rw [if_pos hl, if_neg (not_le.mpr hl)]
    isplitl [H]; · iexact H
    iempintro
  · rw [if_neg hl, if_pos (not_lt.mp hl)]
    isplitr; · iempintro
    iexact H

/-- The signal to device `n`: nothing to itself, one unit to any other, with slot `n` if that one comes earlier. -/
theorem sig_step (Fr : sProp 𝕄) (R : Tl) (n : ℕ) {cond : BitVec 1} {dv : cond = 1#1 → Dev nD} {α : Type}
    {J : PUnit → Prog (TpuEff nD τ sig (Elt F) Λ₀ .tc) α} {Q : α → sProp 𝕄} (hn : n < 32)
    (hc : cond = 1#1 ↔ c ≠ ⟨n, hn⟩) (hdv : ∀ h, dv h = ⟨n, hn⟩)
    (hk : stSig m ρ K c Fr R (n + 1) ⊢ WP c (J ⟨⟩) Q) :
    stSig m ρ K c Fr R n ⊢ WP c (if h : cond = 1#1 then (do semSignalWord (dv h) barS 1#32; J ⟨⟩) else J ⟨⟩) Q := by
  unfold stSig WP at hk ⊢
  rw [phase_pre _ _ n hn, rest_step _ n hn]
  rw [phase_post _ _ n hn] at hk
  by_cases h : cond = 1#1
  · have hne := hc.mp h
    rw [dif_pos h, hdv h]
    simp only [semSignalWord, Prog.bind_op, Prog.bind_ret]
    rw [show barO c ⟨n, hn⟩ = tallyAt (barCell ⟨n, hn⟩) () 1 from if_pos hne, add_right_comm]
    unfold OW
    unfold sigB
    iintro ⟨#HR, Hf, ⟨%W, HO⟩, ⟨Ht, Hs⟩, Ho⟩
    ihave Hs := (slot_part m ρ c ⟨n, hn⟩) $$ Hs
    icases Hs with ⟨Hpay, Hs⟩
    iapply (Rounds.wp_signal 𝒱₀ ER (sched m ρ) (c : Thread nD τ) none (dst := (⟨n, hn⟩ : Dev nD)) (κ := K (⟨n, hn⟩, kBar)) (r := 0)
      (d := c) (by rw [duties_eq, use_bar]; exact Finset.mem_filter.mpr ⟨Finset.mem_univ _, hne⟩)
      (k' := 1) (by rw [amount_eq, use_bar]; rfl) () (rest (barO c) (n + 1) + R) rfl) $$ [HO Ht Hpay]
    · isplitr; · iapply (inv_bar m ρ K ⟨n, hn⟩) $$ HR
      isplitl [HO]; · iexact HO
      isplitl [Ht]; · iexact Ht
      isplitl [Hpay]; · iexact Hpay
      iapply (reached_bar m ρ K ⟨n, hn⟩) $$ HR
    iintro HO
    iapply hk
    unfold OW
    isplitr; · iexact HR
    isplitl [Hf]; · iexact Hf
    isplitl [HO]; · iexists W; iexact HO
    isplitl [Hs]; · iexact Hs
    iexact Ho
  · have he : c = ⟨n, hn⟩ := by by_contra hne; exact h (hc.mpr hne)
    rw [dif_neg h]
    unfold sigB
    unfold sigA at hk
    rw [if_pos (le_of_eq he)] at hk
    rw [show barO c ⟨n, hn⟩ = 0 from if_neg (not_not_intro he), add_zero]
    iintro ⟨#HR, Hf, HO, ⟨-, Hs⟩, Ho⟩
    iapply hk
    isplitr; · iexact HR
    isplitl [Hf]; · iexact Hf
    isplitl [HO]; · iexact HO
    isplitl [Hs]; · iexact Hs
    iexact Ho

end Sig

/-! ## The transfers -/

section Send
variable (c : Dev nD)

def sendB (j : Fin 32) : sProp 𝕄 :=
  iprop((if c < j then slotAny j c else iprop(emp)) ∗ dutyTok ER (sendCell c j) 0 j ∗ dutyTok ER (recvCell j c) 0 c ∗ pShare m ρ c j)
def sendA (j : Fin 32) : sProp 𝕄 := if c < j then cred (tallyAt (sendCell c j) () N) else pShare m ρ c j

def stSend (Fr : sProp 𝕄) (R : Tl) (n : ℕ) : sProp 𝕄 :=
  iprop(recs m ρ K ∗ Fr ∗ OW c (rest (recvO c) n + R) ∗ phase (sendB m ρ c) (sendA m ρ c) n)

/-- The slot a transfer wrote holds the sender's sum. -/
theorem slot_filled (d : Dev nD) (f : Buf (Elt F) ((slot c).view.loc (d : Thread nD τ))) :
    ((slot c).view.loc (d : Thread nD τ) ↦[(slot c).view.set]{fullShare} (slot c).view.write (Elt F) f (pM.view.read (Elt F) (pv m ρ c)) Finset.univ : sProp 𝕄)
      ⊢ slotFull m ρ d c := by
  unfold slotFull slotPts
  iintro H
  iexists _
  isplitr
  rotate_left
  · iexact H
  · ipureintro; rw [View.read_write_univ, View.read_whole]

/-- One transfer of device `c`'s sum into slot `c` of a later device `d`. -/
theorem wp_transfer (d j : Dev nD) (hd : d = j) (hlt : c < j) {hsc : (slot c).view.ref.isScScratch = false}
    {hsrc : pM.view.WordExact} {hdst : (slot c).view.WordExact}
    {hsem : DmaTarget.Typed .vmem (.dma (recvS c)) (.remote (Dev.tc d : Thread nD τ) (slot c) (.dma (sendS j)) hsc)}
    {α : Type} {Q : α → sProp 𝕄} {k : PUnit → Prog (TpuEff nD τ sig (Elt F) Λ₀ .tc) α} (O : Tl) (W : Waits sig Unit)
    (f : Buf (Elt F) ((slot c).view.loc (j : Thread nD τ))) :
    iprop(recs m ρ K ∗ pShare m ρ c j ∗ slotPts j c f ∗ owes (c : Thread nD τ) (O + recvO c j) W
        ∗ dutyTok ER (sendCell c j) 0 j ∗ dutyTok ER (recvCell j c) 0 c)
      ⊢ iprop(((cred (tallyAt (sendCell c j) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma pM (.remote (Dev.tc d : Thread nD τ) (slot c) (.dma (sendS j)) hsc) (.dma (recvS c)) hsrc hdst hsem) k) Q) := by
  subst hd
  iintro ⟨#HR, Hp, Hs, HO, Ht1, Ht2⟩ Hk
  iapply (Rounds.wp_send_pointsTo 𝒱₀ ER (sched m ρ) (c : Thread nD τ) none (κ₁ := K (c, kSend d)) (κ₂ := K (d, kRecv c))
    (r₁ := 0) (r₂ := 0) (d₁ := d) (d₂ := c) (fs := pv m ρ c) (fd := f) (q := ShareLeaves.leaf 5 fullShare d)
    (by rw [duties_eq, use_send]; dsimp only [dutyOf]; rw [if_pos hlt]; exact Finset.mem_singleton_self _)
    (by rw [duties_eq, use_recv]; dsimp only [dutyOf]; rw [if_pos hlt]; exact Finset.mem_singleton_self _)
    () () N rfl (by rw [amount_eq, use_send]; rfl) (by rw [amount_eq, use_recv]; rfl) O
    (O₀ := O + recvO c d) (by rw [show recvO c d = tallyAt (recvCell d c) () N from if_pos hlt]) (W := W)
    (by rw [payload_eq, use_send]; exact BI.Entails.refl _)
    (by rw [payload_eq, use_recv]; exact slot_filled m ρ c d f)) $$ [Hp Hs HO Ht1 Ht2]
  · isplitr; · iapply (inv_send m ρ K c d) $$ HR
    isplitr; · iapply (inv_recv m ρ K d c) $$ HR
    isplitl [Hp]; · unfold pShare; iexact Hp
    isplitl [Hs]; · unfold slotPts; iexact Hs
    isplitl [HO]; · iexact HO
    isplitl [Ht1]; · iexact Ht1
    isplitr; · iapply (reached_send m ρ K c d) $$ HR
    isplitl [Ht2]; · iexact Ht2
    iapply (reached_recv m ρ K d c) $$ HR
  iexact Hk

/-- The transfer to device `n`: nothing to an earlier device or to itself, the sum into slot `c` of a later one. -/
theorem send_step (Fr : sProp 𝕄) (R : Tl) (n : ℕ) {cond : BitVec 1} {dv : cond = 1#1 → Dev nD}
    {off0 : Fin S32.rank → ℕ} {inb0 : ∀ a, off0 a + S1.size a ≤ S32.size a}
    {off1 : Fin S32.rank → ℕ} {inb1 : cond = 1#1 → ∀ a, off1 a + S1.size a ≤ S32.size a}
    {off2 : Fin S32x1x1024.rank → ℕ} {inb2 : cond = 1#1 → ∀ a, off2 a + S1x1x1024.size a ≤ S32x1x1024.size a}
    {hw : pM.view.WordExact} {hv : ∀ h, (slotAt off2 (inb2 h)).view.WordExact}
    {hsc : ∀ h, (slotAt off2 (inb2 h)).view.ref.isScScratch = false}
    {hsem : ∀ h, DmaTarget.Typed .vmem (.dma (semAt cc0_scratch5 off1 (inb1 h)))
      (.remote (Dev.tc (dv h) : Thread nD τ) (slotAt off2 (inb2 h)) (.dma (semAt cc0_scratch4 off0 inb0)) (hsc h))}
    {α : Type} {J : PUnit → Prog (TpuEff nD τ sig (Elt F) Λ₀ .tc) α} {Q : α → sProp 𝕄} (hn : n < 32)
    (hc : cond = 1#1 ↔ c < ⟨n, hn⟩) (hdv : ∀ h, dv h = ⟨n, hn⟩)
    (h0 : off0 = ![n]) (h1 : off1 = ![c.val]) (h2 : off2 = ![c.val, 0, 0])
    (hk : stSend m ρ K c Fr R (n + 1) ⊢ WP c (J ⟨⟩) Q) :
    stSend m ρ K c Fr R n ⊢ WP c (if h : cond = 1#1 then (do
        Prog.lift (.enqueueDma pM (.remote (Dev.tc (dv h) : Thread nD τ) (slotAt off2 (inb2 h)) (.dma (semAt cc0_scratch4 off0 inb0)) (hsc h))
          (.dma (semAt cc0_scratch5 off1 (inb1 h))) hw (hv h) (hsem h))
        J ⟨⟩) else J ⟨⟩) Q := by
  subst h0 h1 h2
  unfold stSend WP at hk ⊢
  rw [phase_pre _ _ n hn, rest_step _ n hn]
  rw [phase_post _ _ n hn] at hk
  by_cases h : cond = 1#1
  · have hlt := hc.mp h
    rw [dif_pos h]
    simp only [Prog.lift, Prog.bind_op, Prog.bind_ret]
    unfold sendA at hk
    rw [if_pos hlt] at hk
    unfold OW sendB slotAny
    rw [if_pos hlt, add_right_comm]
    iintro ⟨#HR, Hf, ⟨%W, HO⟩, ⟨⟨%f, Hs⟩, Ht1, Ht2, Hp⟩, Ho⟩
    iapply (wp_transfer m ρ K c (dv h) ⟨n, hn⟩ (hdv h) hlt (rest (recvO c) (n + 1) + R) W f) $$ [Hp Hs HO Ht1 Ht2]
    · isplitr; · iexact HR
      isplitl [Hp]; · iexact Hp
      isplitl [Hs]; · iexact Hs
      isplitl [HO]; · iexact HO
      isplitl [Ht1] <;> iassumption
    iintro ⟨Hc, HO⟩
    iapply hk
    unfold OW
    isplitr; · iexact HR
    isplitl [Hf]; · iexact Hf
    isplitl [HO]; · iexists W; iexact HO
    isplitl [Hc]; · iexact Hc
    iexact Ho
  · have hlt : ¬ c < (⟨n, hn⟩ : Dev nD) := fun hl => h (hc.mpr hl)
    rw [dif_neg h]
    unfold sendA at hk
    rw [if_neg hlt] at hk
    rw [show recvO c ⟨n, hn⟩ = 0 from if_neg hlt, add_zero]
    unfold sendB
    iintro ⟨#HR, Hf, HO, ⟨-, -, -, Hp⟩, Ho⟩
    iapply hk
    isplitr; · iexact HR
    isplitl [Hf]; · iexact Hf
    isplitl [HO]; · iexact HO
    isplitl [Hp]; · iexact Hp
    iexact Ho

end Send

end Cert.Scan
-- ==== Proof.Steps2.lean ====
/- The rest of the steps: the receives with their accumulation, the waits for the transfers to have left, the
   acknowledgements, the barrier wait. -/
module

public import proofs.«01_k».proof.Proof.Steps

@[expose] public section

noncomputable section

namespace Cert.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CellIx → ℕ)

/-! ## Closing a cell -/

theorem duties_none (c : Dev nD) (sm : SemLoc sig) (h : dutyOf c (useOf sm) = ∅) :
    ∀ r, 0 ≤ r → (sched (F := F) m ρ).duties ((c : Thread nD τ), sm) r = ∅ := fun r _ => by
  rcases Nat.eq_zero_or_pos r with rfl | hr
  · rw [duties_eq, h]
  · exact duties_later m ρ _ r hr

/-- What a round with a single duty hands over. -/
theorem rest_single (c : Dev nD) (sm : SemLoc sig) (d : Dev nD) (h : dutyOf c (useOf sm) = {d}) :
    bigSep ((sched (F := F) m ρ).duties ((c : Thread nD τ), sm) 0 \ ∅) (fun d => (sched (F := F) m ρ).payload ((c : Thread nD τ), sm) 0 d)
      = payOf m ρ c d (useOf sm) := by
  rw [Finset.sdiff_empty, duties_eq, h, bigSep_singleton, payload_eq]

/-! ## The receives -/

section Recv
variable (c : Dev nD)

theorem hz2 : (![0, 0] : Fin 2 → ℕ) = fun _ => 0 := funext fun a => by fin_cases a <;> rfl

/-- The accumulator, holding `v`. -/
def accPts (v : Vec F S1x1024 .f32) : sProp 𝕄 := ((c : Thread nD τ).loc cc0_scratch3) ↦{fullShare} v

def recvB (j : Fin 32) : sProp 𝕄 :=
  iprop((if j < c then cred (tallyAt (recvCell c j) () N) else iprop(emp)) ∗ atPos ER (recvCell c j) 0 ∅ 0
    ∗ (if c ≤ j then slotAny c j else iprop(emp)))
def recvA (j : Fin 32) : sProp 𝕄 := iprop(semVal (recvCell c j) 0 ∗ slotAny c j)

def stRecv (Fr : sProp 𝕄) (O : Tl) (n : ℕ) : sProp 𝕄 :=
  iprop(recs m ρ K ∗ Fr ∗ OW c O ∗ accPts c (av m ρ c n) ∗ phase (recvB c) (recvA c) n)

/-- A load of a slot's row reads the slot, up to its shape. -/
theorem read_slot (j : Fin 32) (f : Buf (Elt F) ((slot j).view.loc (c : Thread nD τ))) (w : Vec F S1x1024 .f32)
    (h : (slot j).view.read (Elt F) f = w) :
    qM.view.readAt (Elt F) (Rect.unit (s := S32x1x1024) ![j.val, 0, 0] S1x1x1024.size (slot_inb j)).toLoadRect f
      = fun i => w (Shape.reshapeEquiv (by decide : S1x1024.ShapeCasts S1x1x1024) i) := by
  subst h
  funext i
  show _ = (qM.view.slice (Rect.unit (s := S32x1x1024) ![j.val, 0, 0] S1x1x1024.size (slot_inb j))).read (Elt F) f
    (Shape.reshapeEquiv _ (Shape.reshapeEquiv _ i))
  rw [Shape.reshapeEquiv_reshapeEquiv, Shape.reshapeEquiv_self]
  rfl

/-- A wait for a slot's bytes takes `N` off the semaphore. -/
theorem wait_slot {sem : DmaSem sig} {off h} {hw : pM.view.WordExact} {hv : (slotAt off h).view.WordExact} (Kt : PUnit → sProp 𝕄) :
    wpE (defs₀ (F := F)) 𝒱₀ (c : Thread nD τ) none Set.univ (.waitDma2 sem pM (slotAt off h) hw hv) Kt
      = waitSpec (c : Thread nD τ) Set.univ (.dma sem) N Kt := rfl

abbrev rA : Rect S1x1024 := Rect.unit (s := S1x1024) ![0, 0] S1x1024.size inb_S1x1024_S1x1024_0_0

theorem read_acc (v : Vec F S1x1024 .f32) : aM.view.readAt (Elt F) rA.toLoadRect v = v :=
  Memref.readAt_unit_zero (Elt F) cc0_scratch3 hz2 _ v
theorem write_acc (v w : Vec F S1x1024 .f32) : (aM.access rA).write (Elt F) v w Finset.univ = w :=
  Memref.write_access_unit_zero_univ (Elt F) cc0_scratch3 hz2 _ v w

/-- The receive from device `n`: an earlier device's sum is waited for and added, any other is passed over. -/
theorem recv_step (Fr : sProp 𝕄) (O : Tl) (hO : Above 2 O) (n : ℕ) {cond : BitVec 1}
    {off0 : Fin S32.rank → ℕ} {inb0 : ∀ a, off0 a + S1.size a ≤ S32.size a}
    {off1 : Fin S32x1x1024.rank → ℕ} {inb1 : ∀ a, off1 a + S1x1x1024.size a ≤ S32x1x1024.size a}
    {pay : Vec F S1x1024 .f32 → Vec F S1x1x1024 .f32 → Vec F S1x1024 .f32}
    {hw : pM.view.WordExact} {hv : (slotAt off1 inb1).view.WordExact}
    {hl1 : aM.view.LoadsAt rA.toLoadRect} {hl2 : qM.view.LoadsAt (Rect.unit (s := S32x1x1024) off1 S1x1x1024.size inb1).toLoadRect}
    {hs1 : (aM.access rA).Stores Finset.univ} {hs2 : (Finset.univ : Finset rA.shape.Idx) = Finset.univ ∨ ∀ a, rA.stride a = 1}
    {α : Type} {J : PUnit → Prog (TpuEff nD τ sig (Elt F) Λ₀ .tc) α} {Q : α → sProp 𝕄} (hn : n < 32)
    (hc : cond = 1#1 ↔ (⟨n, hn⟩ : Dev nD) < c) (h0 : off0 = ![n]) (h1 : off1 = ![n, 0, 0]) (hp : pay = k0_pay28)
    (hk : stRecv m ρ K c Fr O (n + 1) ⊢ WP c (J ⟨⟩) Q) :
    stRecv m ρ K c Fr O n ⊢ WP c (if h : cond = 1#1 then (do
        Prog.lift (.waitDma2 (semAt cc0_scratch5 off0 inb0) pM (slotAt off1 inb1) hw hv)
        let v726 : Vec F S1x1024 .f32 ← Prog.lift (.load aM rA.toLoadRect hl1)
        let v727 : Vec F S1x1x1024 .f32 ← Prog.lift (.load qM (Rect.unit (s := S32x1x1024) off1 S1x1x1024.size inb1).toLoadRect hl2)
        let v730 : Vec F S1x1024 .f32 ← Prog.lift (.load aM rA.toLoadRect hl1)
        Prog.lift (.store aM rA (pay v726 v727) Finset.univ hs1 hs2)
        J ⟨⟩) else J ⟨⟩) Q := by
  subst h0 h1 hp
  unfold stRecv WP at hk ⊢
  rw [phase_pre _ _ n hn]
  rw [phase_post _ _ n hn] at hk
  by_cases h : cond = 1#1
  · have hlt := hc.mp h
    have hd : dutyOf c (useOf (.dma (recvS ⟨n, hn⟩))) = {⟨n, hn⟩} := by rw [use_recv]; exact if_pos hlt
    rw [dif_pos h]
    simp only [Prog.lift, Prog.bind_op, Prog.bind_ret]
    rw [show av m ρ c (n + 1) = accAdd (av m ρ c n) (pv m ρ ⟨n, hn⟩) from dif_pos hlt] at hk
    rw [show semAt cc0_scratch5 ![n] inb0 = recvS ⟨n, hn⟩ from rfl]
    unfold OW recvB accPts
    rw [if_pos hlt]
    iintro ⟨#HR, Hf, ⟨%W, HO⟩, Ha, ⟨Hc, Hat, -⟩, Ho⟩
    iapply (Rounds.wp_wait_rest_token 𝒱₀ ER (sched m ρ) (c : Thread nD τ) none (κ := K (c, kRecv ⟨n, hn⟩)) (sm := .dma (recvS ⟨n, hn⟩)) (k' := N)
      (wait_slot c) (Set.mem_univ _) () (O := O) (W := W) (R := 0) (m := 0) (T := ∅)
      (by rw [expect_eq, hd, use_recv, Finset.card_singleton, one_mul, zero_add]; rfl)) $$ [Hc HO Hat]
    · isplitr; · iapply (inv_recv m ρ K c ⟨n, hn⟩) $$ HR
      isplitl [Hc]; · iexact Hc
      isplitl [HO]; · iexact HO
      isplitr
      · iapply (may_wait m ρ K c (.dma (recvS ⟨n, hn⟩)) O (by rw [lv_recv]; exact hO)) $$ HR
      iexact Hat
    iintro ⟨HO, Hat, -, Hpay⟩
    ihave Hs := (Entails.of_eq ((rest_single m ρ c _ _ hd).trans (show _ = slotFull m ρ c ⟨n, hn⟩ by rw [use_recv]; rfl))) $$ Hpay
    imod (Rounds.cell_close ER (sched m ρ) (Set.mem_univ (K (c, kRecv ⟨n, hn⟩))) (fun h => h) (R := 0 + 1) (duties_later m ρ (recvCell c ⟨n, hn⟩))) $$ [Hat] with Hz
    · isplitr; · iapply (inv_recv m ρ K c ⟨n, hn⟩) $$ HR
      iexact Hat
    unfold slotFull slotPts
    icases Hs with ⟨%f, %hf, Hs⟩
    iapply (wp_load 𝒱₀ (c : Thread nD τ) none Set.univ (m := aM) (Finset.subset_univ _)) $$ Ha; iintro Ha
    iapply (wp_load_rect 𝒱₀ (c : Thread nD τ) none Set.univ (m := qM) (by rw [View.set_reshape])) $$ Hs; iintro Hs
    iapply (wp_load 𝒱₀ (c : Thread nD τ) none Set.univ (m := aM) (Finset.subset_univ _)) $$ Ha; iintro Ha
    iapply (wp_store 𝒱₀ (c : Thread nD τ) none Set.univ (m := aM) (r := rA) (Mk := Finset.univ) (Finset.subset_univ _)) $$ Ha; iintro Ha
    rw [read_acc, write_acc, show (qM.access (Rect.unit (s := S32x1x1024) ![n, 0, 0] S1x1x1024.size inb1)).read (Elt F) f
      = fun i => pv m ρ ⟨n, hn⟩ (Shape.reshapeEquiv (by decide : S1x1024.ShapeCasts S1x1x1024) i) from read_slot c ⟨n, hn⟩ f _ hf]
    iapply hk
    unfold OW recvA accPts accAdd
    isplitr; · iexact HR
    isplitl [Hf]; · iexact Hf
    isplitl [HO]; · iexists _; iexact HO
    isplitl [Ha]; · iexact Ha
    isplitl [Hz Hs]
    · isplitl [Hz]; · iexact Hz
      unfold slotAny slotPts; iexists f; iexact Hs
    iexact Ho
  · have hlt : ¬ (⟨n, hn⟩ : Dev nD) < c := fun hl => h (hc.mpr hl)
    have hd : dutyOf c (useOf (.dma (recvS ⟨n, hn⟩))) = ∅ := by rw [use_recv]; exact if_neg hlt
    rw [dif_neg h]
    rw [show av m ρ c (n + 1) = av m ρ c n from dif_neg hlt] at hk
    unfold recvB
    rw [if_pos (not_lt.mp hlt)]
    unfold recvA at hk
    iintro ⟨#HR, Hf, HO, Ha, ⟨-, Hat, Hs⟩, Ho⟩
    imod (Rounds.cell_close ER (sched m ρ) (Set.mem_univ (K (c, kRecv ⟨n, hn⟩))) (fun h => h) (R := 0) (duties_none m ρ c _ hd)) $$ [Hat] with Hz
    · isplitr; · iapply (inv_recv m ρ K c ⟨n, hn⟩) $$ HR
      iexact Hat
    iapply hk
    isplitr; · iexact HR
    isplitl [Hf]; · iexact Hf
    isplitl [HO]; · iexact HO
    isplitl [Ha]; · iexact Ha
    isplitl [Hz Hs]
    · isplitl [Hz]; · iexact Hz
      iexact Hs
    iexact Ho

end Recv

/-! ## The barrier wait -/

section Bar
variable (c : Dev nD)

theorem bar_card (c : Dev nD) : (dutyOf c .bar).card = 31 := by revert c; decide +kernel

/-- What the other devices' barrier signals hand over: the slot each later device keeps for this one. -/
def landing (j : Fin 32) : sProp 𝕄 := if c < j then slotAny j c else iprop(emp)

theorem bar_rest :
    bigSep ((sched (F := F) m ρ).duties (barCell c) 0 \ ∅) (fun d => (sched (F := F) m ρ).payload (barCell c) 0 d)
      = bigSep Finset.univ (landing (F := F) c) := by
  rw [Finset.sdiff_empty, duties_eq, use_bar]
  show bigSep (Finset.univ.filter (· ≠ c)) _ = _
  rw [bigSep_filter]
  refine bigSep_congr fun j _ => ?_
  rw [payload_eq, use_bar]
  unfold landing
  dsimp only [payOf]
  by_cases h : j = c
  · rw [if_neg (not_not_intro h), if_neg (by rw [h]; exact lt_irrefl _)]; rfl
  · rw [if_pos h]

/-- The wait for the 31 other devices. -/
theorem bar_wait (Fr : sProp 𝕄) (O : Tl) (hO : Above 1 O) {α : Type} {p : Prog (TpuEff nD τ sig (Elt F) Λ₀ .tc) α} {Q : α → sProp 𝕄}
    (hk : iprop(recs m ρ K ∗ Fr ∗ OW c O ∗ semVal (barCell c) 0 ∗ bigSep Finset.univ (landing (F := F) c)) ⊢ WP c p Q) :
    iprop(recs m ρ K ∗ Fr ∗ OW c O ∗ cred (tallyAt (barCell c) () 31) ∗ atPos ER (barCell c) 0 ∅ 0)
      ⊢ WP c (do semWaitWord barS 31#32; p) Q := by
  unfold WP at hk ⊢
  simp only [semWaitWord, Prog.bind_op, Prog.bind_ret]
  unfold OW
  iintro ⟨#HR, Hf, ⟨%W, HO⟩, Hc, Hat⟩
  iapply (Rounds.wp_wait_rest_token 𝒱₀ ER (sched m ρ) (c : Thread nD τ) none (κ := K (c, kBar)) (sm := .reg barS) (k' := 31)
    (wpE_semWait_eq 𝒱₀ (c : Thread nD τ) none Set.univ) (Set.mem_univ _) () (O := O) (W := W) (R := 0) (m := 0) (T := ∅)
    (by rw [expect_eq, use_bar, bar_card]; rfl)) $$ [Hc HO Hat]
  · isplitr; · iapply (inv_bar m ρ K c) $$ HR
    isplitl [Hc]; · iexact Hc
    isplitl [HO]; · iexact HO
    isplitr
    · iapply (may_wait m ρ K c (.reg barS) O (by rw [lv_bar]; exact hO)) $$ HR
    iexact Hat
  iintro ⟨HO, Hat, -, Hpay⟩
  ihave Hs := (Entails.of_eq (bar_rest m ρ c)) $$ Hpay
  imod (Rounds.cell_close ER (sched m ρ) (Set.mem_univ (K (c, kBar))) (fun h => h) (R := 0 + 1) (duties_later m ρ (barCell c))) $$ [Hat] with Hz
  · isplitr; · iapply (inv_bar m ρ K c) $$ HR
    iexact Hat
  iapply hk
  unfold OW
  isplitr; · iexact HR
  isplitl [Hf]; · iexact Hf
  isplitl [HO]; · iexists _; iexact HO
  isplitl [Hz]; · iexact Hz
  iexact Hs

end Bar

/-! ## The waits for the transfers to have left -/

section Left
variable (c : Dev nD)

def leftB (j : Fin 32) : sProp 𝕄 := iprop(sendA m ρ c j ∗ atPos ER (sendCell c j) 0 ∅ 0)
def leftA (j : Fin 32) : sProp 𝕄 := iprop(pShare m ρ c j ∗ semVal (sendCell c j) 0)

def stLeft (Fr : sProp 𝕄) (O : Tl) (n : ℕ) : sProp 𝕄 :=
  iprop(recs m ρ K ∗ Fr ∗ OW c O ∗ phase (leftB m ρ c) (leftA m ρ c) n)

/-- The wait on the send semaphore towards device `n`: its share of the sum comes back. -/
theorem left_step (Fr : sProp 𝕄) (O : Tl) (hO : Above 0 O) (n : ℕ) {cond : BitVec 1}
    {off0 : Fin S32.rank → ℕ} {inb0 : ∀ a, off0 a + S1.size a ≤ S32.size a}
    {off1 : Fin S32x1x1024.rank → ℕ} {inb1 : cond = 1#1 → ∀ a, off1 a + S1x1x1024.size a ≤ S32x1x1024.size a}
    {hw : pM.view.WordExact} {hv : ∀ h, (slotAt off1 (inb1 h)).view.WordExact}
    {α : Type} {J : PUnit → Prog (TpuEff nD τ sig (Elt F) Λ₀ .tc) α} {Q : α → sProp 𝕄} (hn : n < 32)
    (hc : cond = 1#1 ↔ c < ⟨n, hn⟩) (h0 : off0 = ![n])
    (hk : stLeft m ρ K c Fr O (n + 1) ⊢ WP c (J ⟨⟩) Q) :
    stLeft m ρ K c Fr O n ⊢ WP c (if h : cond = 1#1 then (do
        Prog.lift (.waitDma2 (semAt cc0_scratch4 off0 inb0) (slotAt off1 (inb1 h)) pM (hv h) hw)
        J ⟨⟩) else J ⟨⟩) Q := by
  subst h0
  unfold stLeft WP at hk ⊢
  rw [phase_pre _ _ n hn]
  rw [phase_post _ _ n hn] at hk
  by_cases h : cond = 1#1
  · have hlt := hc.mp h
    have hd : dutyOf c (useOf (.dma (sendS ⟨n, hn⟩))) = {⟨n, hn⟩} := by rw [use_send]; exact if_pos hlt
    rw [dif_pos h]
    simp only [Prog.lift, Prog.bind_op, Prog.bind_ret]
    rw [show semAt cc0_scratch4 ![n] inb0 = sendS ⟨n, hn⟩ from rfl]
    unfold OW leftB sendA
    rw [if_pos hlt]
    iintro ⟨#HR, Hf, ⟨%W, HO⟩, ⟨Hc, Hat⟩, Ho⟩
    iapply (Rounds.wp_wait_rest_token 𝒱₀ ER (sched m ρ) (c : Thread nD τ) none (κ := K (c, kSend ⟨n, hn⟩)) (sm := .dma (sendS ⟨n, hn⟩)) (k' := N)
      (wpE_waitDma2_eq 𝒱₀ (c : Thread nD τ) none Set.univ) (Set.mem_univ _) () (O := O) (W := W) (R := 0) (m := 0) (T := ∅)
      (by rw [expect_eq, hd, use_send, Finset.card_singleton, one_mul, zero_add]; rfl)) $$ [Hc HO Hat]
    · isplitr; · iapply (inv_send m ρ K c ⟨n, hn⟩) $$ HR
      isplitl [Hc]; · iexact Hc
      isplitl [HO]; · iexact HO
      isplitr
      · iapply (may_wait m ρ K c (.dma (sendS ⟨n, hn⟩)) O (by rw [lv_send]; exact hO)) $$ HR
      iexact Hat
    iintro ⟨HO, Hat, -, Hpay⟩
    ihave Hs := (Entails.of_eq ((rest_single m ρ c _ _ hd).trans (show _ = pShare m ρ c ⟨n, hn⟩ by rw [use_send]; rfl))) $$ Hpay
    imod (Rounds.cell_close ER (sched m ρ) (Set.mem_univ (K (c, kSend ⟨n, hn⟩))) (fun h => h) (R := 0 + 1) (duties_later m ρ (sendCell c ⟨n, hn⟩))) $$ [Hat] with Hz
    · isplitr; · iapply (inv_send m ρ K c ⟨n, hn⟩) $$ HR
      iexact Hat
    iapply hk
    unfold OW leftA
    isplitr; · iexact HR
    isplitl [Hf]; · iexact Hf
    isplitl [HO]; · iexists _; iexact HO
    isplitl [Hz Hs]
    · isplitl [Hs]; · iexact Hs
      iexact Hz
    iexact Ho
  · have hlt : ¬ c < (⟨n, hn⟩ : Dev nD) := fun hl => h (hc.mpr hl)
    have hd : dutyOf c (useOf (.dma (sendS ⟨n, hn⟩))) = ∅ := by rw [use_send]; exact if_neg hlt
    rw [dif_neg h]
    unfold leftB sendA
    rw [if_neg hlt]
    unfold leftA at hk
    iintro ⟨#HR, Hf, HO, ⟨Hs, Hat⟩, Ho⟩
    imod (Rounds.cell_close ER (sched m ρ) (Set.mem_univ (K (c, kSend ⟨n, hn⟩))) (fun h => h) (R := 0) (duties_none m ρ c _ hd)) $$ [Hat] with Hz
    · isplitr; · iapply (inv_send m ρ K c ⟨n, hn⟩) $$ HR
      iexact Hat
    iapply hk
    isplitr; · iexact HR
    isplitl [Hf]; · iexact Hf
    isplitl [HO]; · iexact HO
    isplitl [Hz Hs]
    · isplitl [Hs]; · iexact Hs
      iexact Hz
    iexact Ho

end Left

/-! ## The acknowledgements -/

section Ack
variable (c : Dev nD)

def ackB (j : Fin 32) : sProp 𝕄 := dutyTok ER (ackCell j) 0 c
def nothing (j : Fin 32) : sProp 𝕄 := iprop(emp)

def stAck (Fr : sProp 𝕄) (n : ℕ) : sProp 𝕄 :=
  iprop(recs m ρ K ∗ Fr ∗ OW c (rest (ackO c) n) ∗ phase (ackB c) nothing n)

/-- The acknowledgement to device `n`, if it comes earlier. -/
theorem ack_step (Fr : sProp 𝕄) (n : ℕ) {cond : BitVec 1} {dv : cond = 1#1 → Dev nD} {α : Type}
    {J : PUnit → Prog (TpuEff nD τ sig (Elt F) Λ₀ .tc) α} {Q : α → sProp 𝕄} (hn : n < 32)
    (hc : cond = 1#1 ↔ (⟨n, hn⟩ : Dev nD) < c) (hdv : ∀ h, dv h = ⟨n, hn⟩)
    (hk : stAck m ρ K c Fr (n + 1) ⊢ WP c (J ⟨⟩) Q) :
    stAck m ρ K c Fr n ⊢ WP c (if h : cond = 1#1 then (do semSignalWord (dv h) ackS 1#32; J ⟨⟩) else J ⟨⟩) Q := by
  unfold stAck WP at hk ⊢
  rw [phase_pre _ _ n hn, rest_step _ n hn]
  rw [phase_post _ _ n hn] at hk
  unfold nothing at hk
  by_cases h : cond = 1#1
  · have hlt := hc.mp h
    rw [dif_pos h, hdv h]
    simp only [semSignalWord, Prog.bind_op, Prog.bind_ret]
    rw [show ackO c ⟨n, hn⟩ = tallyAt (ackCell ⟨n, hn⟩) () 1 from if_pos hlt]
    unfold OW ackB
    iintro ⟨#HR, Hf, ⟨%W, HO⟩, Ht, Ho⟩
    iapply (Rounds.wp_signal 𝒱₀ ER (sched m ρ) (c : Thread nD τ) none (dst := (⟨n, hn⟩ : Dev nD)) (κ := K (⟨n, hn⟩, kAck)) (r := 0)
      (d := c) (by rw [duties_eq, use_ack]; exact Finset.mem_filter.mpr ⟨Finset.mem_univ _, hlt⟩)
      (k' := 1) (by rw [amount_eq, use_ack]; rfl) () (rest (ackO c) (n + 1)) rfl) $$ [HO Ht]
    · isplitr; · iapply (inv_ack m ρ K ⟨n, hn⟩) $$ HR
      isplitl [HO]; · iexact HO
      isplitl [Ht]; · iexact Ht
      isplitr; · rw [payload_eq, use_ack]; dsimp only [payOf]; iempintro
      iapply (reached_ack m ρ K ⟨n, hn⟩) $$ HR
    iintro HO
    iapply hk
    unfold OW
    isplitr; · iexact HR
    isplitl [Hf]; · iexact Hf
    isplitl [HO]; · iexists W; iexact HO
    isplitr; · iempintro
    iexact Ho
  · have hlt : ¬ (⟨n, hn⟩ : Dev nD) < c := fun hl => h (hc.mpr hl)
    rw [dif_neg h]
    rw [show ackO c ⟨n, hn⟩ = 0 from if_neg hlt, add_zero]
    iintro ⟨#HR, Hf, HO, -, Ho⟩
    iapply hk
    isplitr; · iexact HR
    isplitl [Hf]; · iexact Hf
    isplitl [HO]; · iexact HO
    isplitr; · iempintro
    iexact Ho

/-- The credit for a later device's acknowledgement. -/
def ackC (j : Fin 32) : sProp 𝕄 := if c < j then cred (tallyAt (ackCell c) () 1) else iprop(emp)

theorem ack_card (c : Dev nD) : (dutyOf c .ack).card = 31 - c.val := by revert c; decide +kernel
theorem expect_ack : (sched (F := F) m ρ).expect (ackCell c) 0 = 31 - c.val := by
  rw [expect_eq, use_ack, ack_card]; exact mul_one _

/-- Where the device stands on its acknowledgement cell before waiting for device `n`. -/
def ackPos (n : ℕ) : sProp 𝕄 :=
  iprop(∃ T : Finset (Dev nD), ⌜T ⊆ dutyOf c .ack ∧ (n - (c.val + 1)) + (dutyOf c .ack \ T).card ≤ 31 - c.val⌝
    ∗ atPos ER (ackCell c) 0 T (n - (c.val + 1)))

def stDone (Fr : sProp 𝕄) (n : ℕ) : sProp 𝕄 :=
  iprop(recs m ρ K ∗ Fr ∗ OW c 0 ∗ ackPos c n ∗ phase (ackC c) nothing n)

/-- The wait for the acknowledgement of device `n`, if it comes later. -/
theorem done_step (Fr : sProp 𝕄) (n : ℕ) {cond : BitVec 1} {α : Type}
    {J : PUnit → Prog (TpuEff nD τ sig (Elt F) Λ₀ .tc) α} {Q : α → sProp 𝕄} (hn : n < 32)
    (hc : cond = 1#1 ↔ c < (⟨n, hn⟩ : Dev nD))
    (hk : stDone m ρ K c Fr (n + 1) ⊢ WP c (J ⟨⟩) Q) :
    stDone m ρ K c Fr n ⊢ WP c (if h : cond = 1#1 then (do semWaitWord ackS 1#32; J ⟨⟩) else J ⟨⟩) Q := by
  unfold stDone WP at hk ⊢
  rw [phase_pre _ _ n hn]
  rw [phase_post _ _ n hn] at hk
  unfold nothing at hk
  by_cases h : cond = 1#1
  · have hlt := hc.mp h
    have hlt' : c.val < n := hlt
    rw [dif_pos h]
    simp only [semWaitWord, Prog.bind_op, Prog.bind_ret]
    unfold OW ackPos ackC
    rw [if_pos hlt]
    iintro ⟨#HR, Hf, ⟨%W, HO⟩, ⟨%T, %hT, Hat⟩, Hc, Ho⟩
    iapply (Rounds.wp_wait 𝒱₀ ER (sched m ρ) (c : Thread nD τ) none (κ := K (c, kAck)) (sm := .reg ackS) (k' := 1)
      (wpE_semWait_eq 𝒱₀ (c : Thread nD τ) none Set.univ) (Set.mem_univ _) (cr := Finsupp.single () 1) (O := 0) (W := W) {(SemLoc.reg ackS, ())}
      (R := 0) (m := n - (c.val + 1)) (T := T) (by rw [Util.total_single]) (image_single_subset _ _ _)) $$ [Hc HO Hat]
    · isplitr; · iapply (inv_ack m ρ K c) $$ HR
      isplitl [Hc]; · iexact Hc
      isplitl [HO]; · iexact HO
      isplitr
      · iapply (may_wait m ρ K c (.reg ackS) 0 (above_zero _)) $$ HR
      iexact Hat
    iintro %S ⟨%hS, HO, Hat, -⟩
    iapply hk
    unfold OW ackPos
    isplitr; · iexact HR
    isplitl [Hf]; · iexact Hf
    isplitl [HO]; · iexists _; iexact HO
    isplitl [Hat]
    · iexists S
      rw [duties_eq, use_ack, expect_ack] at hS
      have e : n - (c.val + 1) + 1 = n + 1 - (c.val + 1) := by omega
      rw [← e]
      isplitr; · ipureintro; exact hS.2
      iexact Hat
    isplitr; · iempintro
    iexact Ho
  · have hlt : ¬ c < (⟨n, hn⟩ : Dev nD) := fun hl => h (hc.mpr hl)
    have hlt' : ¬ c.val < n := hlt
    rw [dif_neg h]
    have e : ackPos (F := F) c n = ackPos c (n + 1) := by unfold ackPos; rw [show n - (c.val + 1) = n + 1 - (c.val + 1) by omega]
    rw [e]
    iintro ⟨#HR, Hf, HO, Hp, -, Ho⟩
    iapply hk
    isplitr; · iexact HR
    isplitl [Hf]; · iexact Hf
    isplitl [HO]; · iexact HO
    isplitl [Hp]; · iexact Hp
    isplitr; · iempintro
    iexact Ho

/-- After the last of these waits every acknowledgement is in, and the cell closes. -/
theorem ack_close (Es : Set ℕ) (h : K (c, kAck) ∈ Es) :
    iprop(recs m ρ K ∗ ackPos c 32) ⊢ iprop(|={Es}=> semVal (ackCell c) 0 : sProp 𝕄) := by
  unfold ackPos
  iintro ⟨#HR, ⟨%T, %hT, Hat⟩⟩
  have hc := c.isLt
  have hsub : dutyOf c .ack ⊆ T := by
    rw [← Finset.sdiff_eq_empty_iff_subset, ← Finset.card_eq_zero]; change c.val < 32 at hc; omega
  imod (Rounds.fupd_skip ER (sched m ρ) (κ := K (c, kAck)) (g := ackCell c) (R := 0) (T := T) (m := 32 - (c.val + 1))
    (by rw [duties_eq, use_ack]; exact hsub) (by rw [expect_ack]; omega) h) $$ [Hat] with ⟨Hat, -⟩
  · isplitr; · iapply (inv_ack m ρ K c) $$ HR
    iexact Hat
  iapply (Rounds.cell_close ER (sched m ρ) h (fun h => h) (R := 0 + 1) (duties_later m ρ (ackCell c))) $$ [Hat]
  isplitr; · iapply (inv_ack m ρ K c) $$ HR
  iexact Hat

end Ack

end Cert.Scan
-- ==== Proof.Mem.lean ====
/- The memory steps: loading a block of `x`, storing a row sum, storing a block of the result, and the small buffers. -/
module

public import proofs.«01_k».proof.Proof.Steps2

@[expose] public section

noncomputable section

namespace Cert.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CellIx → ℕ)

/-! ## Closing a cell -/

section Mem
variable (c : Dev nD)

/-- Device `c`'s staged block of `x`; its row sums, holding `v`; its result block, holding `v`; its sum, holding `v`. -/
def xPts : sProp 𝕄 := ((c : Thread nD τ).loc cc0_stg0_0) ↦{fullShare} xv m ρ c
def sPts (v : Vec F S8x1024 .f32) : sProp 𝕄 := ((c : Thread nD τ).loc cc0_scratch0) ↦{fullShare} v
def oPts (v : Vec F S2048x1024 .f32) : sProp 𝕄 := ((c : Thread nD τ).loc cc0_stg1_0) ↦{fullShare} v
def pPts (v : Vec F S1x1024 .f32) : sProp 𝕄 := ((c : Thread nD τ).loc cc0_scratch1) ↦{fullShare} v

/-- The row sums, the first `n` of them in place. -/
def sUpTo (n : ℕ) : sProp 𝕄 := iprop(∃ f : Vec F S8x1024 .f32, ⌜∀ i : S8x1024.Idx, (i 0).val < n → f i = sv m ρ c i⌝ ∗ sPts c f)
/-- The result, its first `n` blocks of 256 rows in place. -/
def oUpTo (n : ℕ) : sProp 𝕄 := iprop(∃ f : Vec F S2048x1024 .f32, ⌜∀ i : S2048x1024.Idx, (i 0).val < 256 * n → f i = ov m ρ c i⌝ ∗ oPts c f)

theorem sUpTo_full : (sUpTo m ρ c 8 : sProp 𝕄) ⊢ sPts c (sv m ρ c) := by
  unfold sUpTo
  iintro ⟨%f, %hf, H⟩
  rw [show sv m ρ c = f from funext fun i => (hf i (i 0).isLt).symm]
  iexact H
theorem oUpTo_full : (oUpTo m ρ c 8 : sProp 𝕄) ⊢ oPts c (ov m ρ c) := by
  unfold oUpTo
  iintro ⟨%f, %hf, H⟩
  rw [show ov m ρ c = f from funext fun i => (hf i (i 0).isLt).symm]
  iexact H

abbrev rB (b : Fin 8) : Rect S2048x1024 := Rect.unit (s := S2048x1024) ![256 * b.val, 0] S256x1024.size (blk_inb b)
abbrev rR (b : Fin 8) : Rect S8x1024 := Rect.unit (s := S8x1024) ![b.val, 0] S1x1024.size (row_inb b)

/-- Storing row `b` puts it in place and leaves the others. -/
theorem write_row (f : Vec F S8x1024 .f32) (b : Fin 8) (w : Vec F S1x1024 .f32)
    (hw : w = k0_pay1 (blk (xv m ρ c) b)) (hf : ∀ i : S8x1024.Idx, (i 0).val < b.val → f i = sv m ρ c i) :
    ∀ i : S8x1024.Idx, (i 0).val < b.val + 1 → ((sM.access (rR b)).write (Elt F) f w Finset.univ : Vec F S8x1024 .f32) i = sv m ρ c i := by
  intro i hi
  by_cases h : (i 0).val = b.val
  · have e : i = (sM.access (rR b)).emb (ixr (i 1)) := by
      funext a
      match a with
      | ⟨0, _⟩ => exact Fin.ext (show (i 0).val = b.val + 1 * 0 by omega)
      | ⟨1, _⟩ => exact Fin.ext (show (i 1).val = 0 + 1 * (i 1).val by omega)
    have hb : i 0 = b := Fin.ext h
    have key := (sM.access (rR b)).write_emb_of_mem (Val := Elt F) f w (M := Finset.univ) (x := ixr (i 1)) (Finset.mem_univ _)
    rw [← e] at key
    refine key.trans ?_
    rw [hw]
    show k0_pay1 (blk (xv m ρ c) b) (ixr (i 1)) = k0_pay1 (blk (xv m ρ c) (i 0)) (ixr (i 1))
    rw [hb]
  · rw [View.write_of_not_mem]
    · exact hf i (by omega)
    · intro hm
      obtain ⟨y, -, hy⟩ := Finset.mem_map.mp hm
      apply h
      have := congrArg (fun j : S8x1024.Idx => (j 0).val) hy
      have h0 : (y 0).val = 0 := by have := (y 0).isLt; change (y 0).val < 1 at this; omega
      change b.val + 1 * (y 0).val = (i 0).val at this
      omega

/-- Storing block `b` puts it in place and leaves the others. -/
theorem write_block (f : Vec F S2048x1024 .f32) (b : Fin 8) (w : Vec F S256x1024 .f32)
    (hw : w = blockOut (prefv m ρ c b.val) (blk (xv m ρ c) b)) (hf : ∀ i : S2048x1024.Idx, (i 0).val < 256 * b.val → f i = ov m ρ c i) :
    ∀ i : S2048x1024.Idx, (i 0).val < 256 * (b.val + 1) → ((oM.access (rB b)).write (Elt F) f w Finset.univ : Vec F S2048x1024 .f32) i = ov m ρ c i := by
  intro i hi
  by_cases h : 256 * b.val ≤ (i 0).val
  · have hd : (i 0).val / 256 = b.val := by omega
    have hb : (⟨(i 0).val / 256, row_div (i 0)⟩ : Fin 8) = b := Fin.ext hd
    have e : i = (oM.access (rB b)).emb (ixb ⟨(i 0).val % 256, row_mod (i 0)⟩ (i 1)) := by
      funext a
      match a with
      | ⟨0, _⟩ => exact Fin.ext (show (i 0).val = 256 * b.val + 1 * ((i 0).val % 256) by omega)
      | ⟨1, _⟩ => exact Fin.ext (show (i 1).val = 0 + 1 * (i 1).val by omega)
    have key := (oM.access (rB b)).write_emb_of_mem (Val := Elt F) f w (M := Finset.univ)
      (x := ixb ⟨(i 0).val % 256, row_mod (i 0)⟩ (i 1)) (Finset.mem_univ _)
    rw [← e] at key
    refine key.trans ?_
    rw [hw]
    show blockOut (prefv m ρ c b.val) (blk (xv m ρ c) b) _ = blockOut (prefv m ρ c ((i 0).val / 256)) (blk (xv m ρ c) ⟨(i 0).val / 256, row_div (i 0)⟩) _
    rw [hb, hd]
  · rw [View.write_of_not_mem]
    · exact hf i (by omega)
    · intro hm
      obtain ⟨y, -, hy⟩ := Finset.mem_map.mp hm
      apply h
      have := congrArg (fun j : S2048x1024.Idx => (j 0).val) hy
      change 256 * b.val + 1 * (y 0).val = (i 0).val at this
      omega

/-- A load of a block of `x`. -/
theorem load_x {α : Type} {Q : α → sProp 𝕄} (Fr : sProp 𝕄) (b : Fin 8) {off : Fin S2048x1024.rank → ℕ} {inb : ∀ a, off a + S256x1024.size a ≤ S2048x1024.size a}
    {hl : xM.view.LoadsAt (Rect.unit (s := S2048x1024) off S256x1024.size inb).toLoadRect}
    {k : Vec F S256x1024 .f32 → Prog (TpuEff nD τ sig (Elt F) Λ₀ .tc) α} (ho : off = ![256 * b.val, 0])
    (hk : iprop(xPts m ρ c ∗ Fr) ⊢ WP c (k (blk (xv m ρ c) b)) Q) :
    iprop(xPts m ρ c ∗ Fr) ⊢ WP c (do let v : Vec F S256x1024 .f32 ← Prog.lift (.load xM (Rect.unit (s := S2048x1024) off S256x1024.size inb).toLoadRect hl); k v) Q := by
  subst ho
  unfold WP xPts at hk ⊢
  simp only [Prog.lift, Prog.bind_op, Prog.bind_ret]
  iintro ⟨Hx, Hf⟩
  iapply (wp_load 𝒱₀ (c : Thread nD τ) none Set.univ (m := xM) (Finset.subset_univ _)) $$ Hx; iintro Hx
  iapply hk
  isplitl [Hx]; · iexact Hx
  iexact Hf

/-- A load of a block of the result, whose value is not used. -/
theorem load_o {α : Type} {Q : α → sProp 𝕄} (Fr : sProp 𝕄) (n : ℕ) {r : LoadRect S2048x1024} {hl : oM.view.LoadsAt r}
    {k : (r.shape.Idx → Elt F .f32) → Prog (TpuEff nD τ sig (Elt F) Λ₀ .tc) α}
    (hk : ∀ v, iprop(oUpTo m ρ c n ∗ Fr) ⊢ WP c (k v) Q) :
    iprop(oUpTo m ρ c n ∗ Fr) ⊢ WP c (do let v ← Prog.lift (.load oM r hl); k v) Q := by
  unfold WP oUpTo oPts at hk ⊢
  simp only [Prog.lift, Prog.bind_op, Prog.bind_ret]
  iintro ⟨⟨%f, %hf, Ho⟩, Hr⟩
  iapply (wp_load 𝒱₀ (c : Thread nD τ) none Set.univ (m := oM) (Finset.subset_univ _)) $$ Ho; iintro Ho
  iapply (hk _)
  isplitl [Ho]
  · iexists f
    isplitr; · ipureintro; exact hf
    iexact Ho
  iexact Hr

/-- A load of a row sum not yet in place, whose value is not used. -/
theorem load_s {α : Type} {Q : α → sProp 𝕄} (Fr : sProp 𝕄) (n : ℕ) {r : LoadRect S8x1024} {hl : sM.view.LoadsAt r}
    {k : (r.shape.Idx → Elt F .f32) → Prog (TpuEff nD τ sig (Elt F) Λ₀ .tc) α}
    (hk : ∀ v, iprop(sUpTo m ρ c n ∗ Fr) ⊢ WP c (k v) Q) :
    iprop(sUpTo m ρ c n ∗ Fr) ⊢ WP c (do let v ← Prog.lift (.load sM r hl); k v) Q := by
  unfold WP sUpTo sPts at hk ⊢
  simp only [Prog.lift, Prog.bind_op, Prog.bind_ret]
  iintro ⟨⟨%f, %hf, Ho⟩, Hr⟩
  iapply (wp_load 𝒱₀ (c : Thread nD τ) none Set.univ (m := sM) (Finset.subset_univ _)) $$ Ho; iintro Ho
  iapply (hk _)
  isplitl [Ho]
  · iexists f
    isplitr; · ipureintro; exact hf
    iexact Ho
  iexact Hr

/-- The store of row sum `b`. -/
theorem store_s {α : Type} {Q : α → sProp 𝕄} (Fr : sProp 𝕄) (b : Fin 8) {off : Fin S8x1024.rank → ℕ} {inb : ∀ a, off a + S1x1024.size a ≤ S8x1024.size a}
    {w : Vec F S1x1024 .f32} {hx : (sM.access (Rect.unit (s := S8x1024) off S1x1024.size inb)).Stores Finset.univ}
    {hm : (Finset.univ : Finset (Rect.unit (s := S8x1024) off S1x1024.size inb).shape.Idx) = Finset.univ ∨ ∀ a, (Rect.unit (s := S8x1024) off S1x1024.size inb).stride a = 1}
    {p : Prog (TpuEff nD τ sig (Elt F) Λ₀ .tc) α} (ho : off = ![b.val, 0]) (hw : w = k0_pay1 (blk (xv m ρ c) b))
    (hk : iprop(sUpTo m ρ c (b.val + 1) ∗ Fr) ⊢ WP c p Q) :
    iprop(sUpTo m ρ c b.val ∗ Fr) ⊢ WP c (do Prog.lift (.store sM (Rect.unit (s := S8x1024) off S1x1024.size inb) w Finset.univ hx hm); p) Q := by
  subst ho
  unfold WP sUpTo sPts at hk ⊢
  simp only [Prog.lift, Prog.bind_op, Prog.bind_ret]
  iintro ⟨⟨%f, %hf, Ho⟩, Hr⟩
  iapply (wp_store 𝒱₀ (c : Thread nD τ) none Set.univ (m := sM) (r := rR b) (Mk := Finset.univ) (Finset.subset_univ _)) $$ Ho; iintro Ho
  iapply hk
  isplitl [Ho]
  · iexists _
    isplitr
    rotate_left
    · iexact Ho
    · ipureintro; exact write_row m ρ c f b w hw hf
  iexact Hr

/-- The store of block `b` of the result. -/
theorem store_o {α : Type} {Q : α → sProp 𝕄} (Fr : sProp 𝕄) (b : Fin 8) {off : Fin S2048x1024.rank → ℕ} {inb : ∀ a, off a + S256x1024.size a ≤ S2048x1024.size a}
    {w : Vec F S256x1024 .f32} {hx : (oM.access (Rect.unit (s := S2048x1024) off S256x1024.size inb)).Stores Finset.univ}
    {hm : (Finset.univ : Finset (Rect.unit (s := S2048x1024) off S256x1024.size inb).shape.Idx) = Finset.univ ∨ ∀ a, (Rect.unit (s := S2048x1024) off S256x1024.size inb).stride a = 1}
    {p : Prog (TpuEff nD τ sig (Elt F) Λ₀ .tc) α} (ho : off = ![256 * b.val, 0]) (hw : w = blockOut (prefv m ρ c b.val) (blk (xv m ρ c) b))
    (hk : iprop(oUpTo m ρ c (b.val + 1) ∗ Fr) ⊢ WP c p Q) :
    iprop(oUpTo m ρ c b.val ∗ Fr) ⊢ WP c (do Prog.lift (.store oM (Rect.unit (s := S2048x1024) off S256x1024.size inb) w Finset.univ hx hm); p) Q := by
  subst ho
  unfold WP oUpTo oPts at hk ⊢
  simp only [Prog.lift, Prog.bind_op, Prog.bind_ret]
  iintro ⟨⟨%f, %hf, Ho⟩, Hr⟩
  iapply (wp_store 𝒱₀ (c : Thread nD τ) none Set.univ (m := oM) (r := rB b) (Mk := Finset.univ) (Finset.subset_univ _)) $$ Ho; iintro Ho
  iapply hk
  isplitl [Ho]
  · iexists _
    isplitr
    rotate_left
    · iexact Ho
    · ipureintro; exact write_block m ρ c f b w hw hf
  iexact Hr

/-- A load of row sum `b` once all are in place. -/
theorem load_row {α : Type} {Q : α → sProp 𝕄} (Fr : sProp 𝕄) (b : Fin 8) {off : Fin S8x1024.rank → ℕ} {inb : ∀ a, off a + S1x1024.size a ≤ S8x1024.size a}
    {hl : sM.view.LoadsAt (Rect.unit (s := S8x1024) off S1x1024.size inb).toLoadRect}
    {k : Vec F S1x1024 .f32 → Prog (TpuEff nD τ sig (Elt F) Λ₀ .tc) α} (ho : off = ![b.val, 0])
    (hk : iprop(sPts c (sv m ρ c) ∗ Fr) ⊢ WP c (k (rowOf (sv m ρ c) b)) Q) :
    iprop(sPts c (sv m ρ c) ∗ Fr) ⊢ WP c (do let v : Vec F S1x1024 .f32 ← Prog.lift (.load sM (Rect.unit (s := S8x1024) off S1x1024.size inb).toLoadRect hl); k v) Q := by
  subst ho
  unfold WP sPts at hk ⊢
  simp only [Prog.lift, Prog.bind_op, Prog.bind_ret]
  iintro ⟨Hx, Hf⟩
  iapply (wp_load 𝒱₀ (c : Thread nD τ) none Set.univ (m := sM) (Finset.subset_univ _)) $$ Hx; iintro Hx
  iapply hk
  isplitl [Hx]; · iexact Hx
  iexact Hf

/-- A load of all the row sums. -/
theorem load_rows {α : Type} {Q : α → sProp 𝕄} (Fr : sProp 𝕄) {off : Fin S8x1024.rank → ℕ} {inb : ∀ a, off a + S8x1024.size a ≤ S8x1024.size a}
    {hl : sM.view.LoadsAt (Rect.unit (s := S8x1024) off S8x1024.size inb).toLoadRect}
    {k : Vec F S8x1024 .f32 → Prog (TpuEff nD τ sig (Elt F) Λ₀ .tc) α} (ho : off = ![0, 0])
    (hk : iprop(sPts c (sv m ρ c) ∗ Fr) ⊢ WP c (k (sv m ρ c)) Q) :
    iprop(sPts c (sv m ρ c) ∗ Fr) ⊢ WP c (do let v : Vec F S8x1024 .f32 ← Prog.lift (.load sM (Rect.unit (s := S8x1024) off S8x1024.size inb).toLoadRect hl); k v) Q := by
  subst ho
  unfold WP sPts at hk ⊢
  simp only [Prog.lift, Prog.bind_op, Prog.bind_ret]
  iintro ⟨Hx, Hf⟩
  iapply (wp_load 𝒱₀ (c : Thread nD τ) none Set.univ (m := sM) (Finset.subset_univ _)) $$ Hx; iintro Hx
  rw [show sM.view.readAt (Elt F) (Rect.unit (s := S8x1024) ![0, 0] S8x1024.size inb).toLoadRect (sv m ρ c) = sv m ρ c from
    Memref.readAt_unit_zero (Elt F) cc0_scratch0 hz2 _ _]
  iapply hk
  isplitl [Hx]; · iexact Hx
  iexact Hf

/-- A load of the whole one-row buffers. -/
theorem load_p {α : Type} {Q : α → sProp 𝕄} (Fr : sProp 𝕄) (v : Vec F S1x1024 .f32) {r : LoadRect S1x1024} {hl : pM.view.LoadsAt r}
    {k : (r.shape.Idx → Elt F .f32) → Prog (TpuEff nD τ sig (Elt F) Λ₀ .tc) α}
    (hk : ∀ w, iprop(pPts c v ∗ Fr) ⊢ WP c (k w) Q) :
    iprop(pPts c v ∗ Fr) ⊢ WP c (do let v ← Prog.lift (.load pM r hl); k v) Q := by
  unfold WP pPts at hk ⊢
  simp only [Prog.lift, Prog.bind_op, Prog.bind_ret]
  iintro ⟨Hx, Hf⟩
  iapply (wp_load 𝒱₀ (c : Thread nD τ) none Set.univ (m := pM) (Finset.subset_univ _)) $$ Hx; iintro Hx
  iapply (hk _)
  isplitl [Hx]; · iexact Hx
  iexact Hf

theorem store_p {α : Type} {Q : α → sProp 𝕄} (Fr : sProp 𝕄) (v w : Vec F S1x1024 .f32)
    {hx : (pM.access rA).Stores Finset.univ} {hm : (Finset.univ : Finset rA.shape.Idx) = Finset.univ ∨ ∀ a, rA.stride a = 1}
    {p : Prog (TpuEff nD τ sig (Elt F) Λ₀ .tc) α} (hk : iprop(pPts c w ∗ Fr) ⊢ WP c p Q) :
    iprop(pPts c v ∗ Fr) ⊢ WP c (do Prog.lift (.store pM rA w Finset.univ hx hm); p) Q := by
  unfold WP pPts at hk ⊢
  simp only [Prog.lift, Prog.bind_op, Prog.bind_ret]
  iintro ⟨Hx, Hf⟩
  iapply (wp_store 𝒱₀ (c : Thread nD τ) none Set.univ (m := pM) (r := rA) (Mk := Finset.univ) (Finset.subset_univ _)) $$ Hx; iintro Hx
  rw [show (pM.access rA).write (Elt F) v w Finset.univ = w from Memref.write_access_unit_zero_univ (Elt F) cc0_scratch1 hz2 _ v w]
  iapply hk
  isplitl [Hx]; · iexact Hx
  iexact Hf

theorem load_a {α : Type} {Q : α → sProp 𝕄} (Fr : sProp 𝕄) (v : Vec F S1x1024 .f32) {hl : aM.view.LoadsAt rA.toLoadRect}
    {k : Vec F S1x1024 .f32 → Prog (TpuEff nD τ sig (Elt F) Λ₀ .tc) α}
    (hk : iprop(accPts c v ∗ Fr) ⊢ WP c (k v) Q) :
    iprop(accPts c v ∗ Fr) ⊢ WP c (do let v : Vec F S1x1024 .f32 ← Prog.lift (.load aM rA.toLoadRect hl); k v) Q := by
  unfold WP accPts at hk ⊢
  simp only [Prog.lift, Prog.bind_op, Prog.bind_ret]
  iintro ⟨Hx, Hf⟩
  iapply (wp_load 𝒱₀ (c : Thread nD τ) none Set.univ (m := aM) (Finset.subset_univ _)) $$ Hx; iintro Hx
  rw [read_acc]
  iapply hk
  isplitl [Hx]; · iexact Hx
  iexact Hf

theorem store_a {α : Type} {Q : α → sProp 𝕄} (Fr : sProp 𝕄) (v w : Vec F S1x1024 .f32)
    {hx : (aM.access rA).Stores Finset.univ} {hm : (Finset.univ : Finset rA.shape.Idx) = Finset.univ ∨ ∀ a, rA.stride a = 1}
    {p : Prog (TpuEff nD τ sig (Elt F) Λ₀ .tc) α} (hk : iprop(accPts c w ∗ Fr) ⊢ WP c p Q) :
    iprop(accPts c v ∗ Fr) ⊢ WP c (do Prog.lift (.store aM rA w Finset.univ hx hm); p) Q := by
  unfold WP accPts at hk ⊢
  simp only [Prog.lift, Prog.bind_op, Prog.bind_ret]
  iintro ⟨Hx, Hf⟩
  iapply (wp_store 𝒱₀ (c : Thread nD τ) none Set.univ (m := aM) (r := rA) (Mk := Finset.univ) (Finset.subset_univ _)) $$ Hx; iintro Hx
  rw [write_acc]
  iapply hk
  isplitl [Hx]; · iexact Hx
  iexact Hf

/-- The whole result block. -/
abbrev rO : Rect S2048x1024 := Rect.unit (s := S2048x1024) ![0, 0] S2048x1024.size inb_S2048x1024_S2048x1024_0_0

theorem load_out {α : Type} {Q : α → sProp 𝕄} (Fr : sProp 𝕄) (v : Vec F S2048x1024 .f32) {hl : oM.view.LoadsAt rO.toLoadRect}
    {k : Vec F S2048x1024 .f32 → Prog (TpuEff nD τ sig (Elt F) Λ₀ .tc) α}
    (hk : iprop(oPts c v ∗ Fr) ⊢ WP c (k v) Q) :
    iprop(oPts c v ∗ Fr) ⊢ WP c (do let v : Vec F S2048x1024 .f32 ← Prog.lift (.load oM rO.toLoadRect hl); k v) Q := by
  unfold WP oPts at hk ⊢
  simp only [Prog.lift, Prog.bind_op, Prog.bind_ret]
  iintro ⟨Hx, Hf⟩
  iapply (wp_load 𝒱₀ (c : Thread nD τ) none Set.univ (m := oM) (Finset.subset_univ _)) $$ Hx; iintro Hx
  rw [show oM.view.readAt (Elt F) rO.toLoadRect v = v from Memref.readAt_unit_zero (Elt F) cc0_stg1_0 hz2 _ v]
  iapply hk
  isplitl [Hx]; · iexact Hx
  iexact Hf

theorem store_out {α : Type} {Q : α → sProp 𝕄} (Fr : sProp 𝕄) (v w : Vec F S2048x1024 .f32)
    {hx : (oM.access rO).Stores Finset.univ} {hm : (Finset.univ : Finset rO.shape.Idx) = Finset.univ ∨ ∀ a, rO.stride a = 1}
    {p : Prog (TpuEff nD τ sig (Elt F) Λ₀ .tc) α} (hk : iprop(oPts c w ∗ Fr) ⊢ WP c p Q) :
    iprop(oPts c v ∗ Fr) ⊢ WP c (do Prog.lift (.store oM rO w Finset.univ hx hm); p) Q := by
  unfold WP oPts at hk ⊢
  simp only [Prog.lift, Prog.bind_op, Prog.bind_ret]
  iintro ⟨Hx, Hf⟩
  iapply (wp_store 𝒱₀ (c : Thread nD τ) none Set.univ (m := oM) (r := rO) (Mk := Finset.univ) (Finset.subset_univ _)) $$ Hx; iintro Hx
  rw [show (oM.access rO).write (Elt F) v w Finset.univ = w from Memref.write_access_unit_zero_univ (Elt F) cc0_stg1_0 hz2 _ v w]
  iapply hk
  isplitl [Hx]; · iexact Hx
  iexact Hf

end Mem
end Cert.Scan
-- ==== Proof.Words.lean ====
/- The steps once more, with the conditions written in the program's own words, and the steps on the local buffers put
   together: one row sum, one block of the result. -/
module

public import proofs.«01_k».proof.Proof.Mem

@[expose] public section

noncomputable section

namespace Cert.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CellIx → ℕ)

/-! ## Closing a cell -/

/-! ## The program's words -/

/-- The device's position, as the program computes it, and the comparison of it with a number. -/
def posW (c : Dev nD) : BitVec 32 := Scalar.remsi (Scalar.divsi (Dev.word c) 1#32) 32#32
def cmpW (op : CmpIPredicate) (c : Dev nD) (k : BitVec 32) : BitVec 32 := Scalar.extui (Scalar.cmpi op (posW c) k)
def condW (op : CmpIPredicate) (c : Dev nD) (k : BitVec 32) : BitVec 1 := Scalar.cmpi .ne (cmpW op c k) 0#32

theorem cond_ne (c n : Fin 32) : condW .ne c (BitVec.ofNat 32 n.val) = 1#1 ↔ c ≠ n := by revert c n; decide +kernel
theorem cond_slt (c n : Fin 32) : condW .slt c (BitVec.ofNat 32 n.val) = 1#1 ↔ c < n := by revert c n; decide +kernel
theorem cond_sgt (c n : Fin 32) : condW .sgt c (BitVec.ofNat 32 n.val) = 1#1 ↔ n < c := by revert c n; decide +kernel
theorem pos_word (c : Fin 32) : (posW c).toNat = c.val := by revert c; decide +kernel
theorem off_one (c : Fin 32) : (![(posW c).toNat] : Fin 1 → ℕ) = ![c.val] := by rw [pos_word]
theorem off_three (c : Fin 32) : (![(posW c).toNat, 0, 0] : Fin 3 → ℕ) = ![c.val, 0, 0] := by rw [pos_word]

theorem below {n : ℕ} (h : Nat.ble (n + 1) 32 = true) : n < 32 := Nat.le_of_ble_eq_true h

/-! ## The steps, their conditions in the program's words -/

section Worded
variable (c : Dev nD)

theorem sig_word (Fr : sProp 𝕄) (R : Tl) (n : ℕ) {cond : BitVec 1} {dv : cond = 1#1 → Dev nD} {α : Type}
    {J : PUnit → Prog (TpuEff nD τ sig (Elt F) Λ₀ .tc) α} {Q : α → sProp 𝕄} (hn : n < 32)
    (hc : cond = condW .ne c (BitVec.ofNat 32 n)) (hdv : ∀ h, dv h = ⟨n, hn⟩)
    (hk : stSig m ρ K c Fr R (n + 1) ⊢ WP c (J ⟨⟩) Q) :
    stSig m ρ K c Fr R n ⊢ WP c (if h : cond = 1#1 then (do semSignalWord (dv h) barS 1#32; J ⟨⟩) else J ⟨⟩) Q :=
  sig_step m ρ K c Fr R n hn (by rw [hc]; exact cond_ne c ⟨n, hn⟩) hdv hk

theorem send_word (Fr : sProp 𝕄) (R : Tl) (n : ℕ) {cond : BitVec 1} {dv : cond = 1#1 → Dev nD}
    {off0 : Fin S32.rank → ℕ} {inb0 : ∀ a, off0 a + S1.size a ≤ S32.size a}
    {off1 : Fin S32.rank → ℕ} {inb1 : cond = 1#1 → ∀ a, off1 a + S1.size a ≤ S32.size a}
    {off2 : Fin S32x1x1024.rank → ℕ} {inb2 : cond = 1#1 → ∀ a, off2 a + S1x1x1024.size a ≤ S32x1x1024.size a}
    {hw : pM.view.WordExact} {hv : ∀ h, (slotAt off2 (inb2 h)).view.WordExact}
    {hsc : ∀ h, (slotAt off2 (inb2 h)).view.ref.isScScratch = false}
    {hsem : ∀ h, DmaTarget.Typed .vmem (.dma (semAt cc0_scratch5 off1 (inb1 h)))
      (.remote (Dev.tc (dv h) : Thread nD τ) (slotAt off2 (inb2 h)) (.dma (semAt cc0_scratch4 off0 inb0)) (hsc h))}
    {α : Type} {J : PUnit → Prog (TpuEff nD τ sig (Elt F) Λ₀ .tc) α} {Q : α → sProp 𝕄} (hn : n < 32)
    (hc : cond = condW .slt c (BitVec.ofNat 32 n)) (hdv : ∀ h, dv h = ⟨n, hn⟩)
    (h0 : off0 = ![n]) (h1 : off1 = ![(posW c).toNat]) (h2 : off2 = ![(posW c).toNat, 0, 0])
    (hk : stSend m ρ K c Fr R (n + 1) ⊢ WP c (J ⟨⟩) Q) :
    stSend m ρ K c Fr R n ⊢ WP c (if h : cond = 1#1 then (do
        Prog.lift (.enqueueDma pM (.remote (Dev.tc (dv h) : Thread nD τ) (slotAt off2 (inb2 h)) (.dma (semAt cc0_scratch4 off0 inb0)) (hsc h))
          (.dma (semAt cc0_scratch5 off1 (inb1 h))) hw (hv h) (hsem h))
        J ⟨⟩) else J ⟨⟩) Q :=
  send_step m ρ K c Fr R n hn (by rw [hc]; exact cond_slt c ⟨n, hn⟩) hdv h0 (h1.trans (off_one c)) (h2.trans (off_three c)) hk

theorem recv_word (Fr : sProp 𝕄) (O : Tl) (hO : Above 2 O) (n : ℕ) {cond : BitVec 1}
    {off0 : Fin S32.rank → ℕ} {inb0 : ∀ a, off0 a + S1.size a ≤ S32.size a}
    {off1 : Fin S32x1x1024.rank → ℕ} {inb1 : ∀ a, off1 a + S1x1x1024.size a ≤ S32x1x1024.size a}
    {pay : Vec F S1x1024 .f32 → Vec F S1x1x1024 .f32 → Vec F S1x1024 .f32}
    {hw : pM.view.WordExact} {hv : (slotAt off1 inb1).view.WordExact}
    {hl1 : aM.view.LoadsAt rA.toLoadRect} {hl2 : qM.view.LoadsAt (Rect.unit (s := S32x1x1024) off1 S1x1x1024.size inb1).toLoadRect}
    {hs1 : (aM.access rA).Stores Finset.univ} {hs2 : (Finset.univ : Finset rA.shape.Idx) = Finset.univ ∨ ∀ a, rA.stride a = 1}
    {α : Type} {J : PUnit → Prog (TpuEff nD τ sig (Elt F) Λ₀ .tc) α} {Q : α → sProp 𝕄} (hn : n < 32)
    (hc : cond = condW .sgt c (BitVec.ofNat 32 n)) (h0 : off0 = ![n]) (h1 : off1 = ![n, 0, 0]) (hp : pay = k0_pay28)
    (hk : stRecv m ρ K c Fr O (n + 1) ⊢ WP c (J ⟨⟩) Q) :
    stRecv m ρ K c Fr O n ⊢ WP c (if h : cond = 1#1 then (do
        Prog.lift (.waitDma2 (semAt cc0_scratch5 off0 inb0) pM (slotAt off1 inb1) hw hv)
        let v726 : Vec F S1x1024 .f32 ← Prog.lift (.load aM rA.toLoadRect hl1)
        let v727 : Vec F S1x1x1024 .f32 ← Prog.lift (.load qM (Rect.unit (s := S32x1x1024) off1 S1x1x1024.size inb1).toLoadRect hl2)
        let v730 : Vec F S1x1024 .f32 ← Prog.lift (.load aM rA.toLoadRect hl1)
        Prog.lift (.store aM rA (pay v726 v727) Finset.univ hs1 hs2)
        J ⟨⟩) else J ⟨⟩) Q :=
  recv_step m ρ K c Fr O hO n hn (by rw [hc]; exact cond_sgt c ⟨n, hn⟩) h0 h1 hp hk

theorem left_word (Fr : sProp 𝕄) (O : Tl) (hO : Above 0 O) (n : ℕ) {cond : BitVec 1}
    {off0 : Fin S32.rank → ℕ} {inb0 : ∀ a, off0 a + S1.size a ≤ S32.size a}
    {off1 : Fin S32x1x1024.rank → ℕ} {inb1 : cond = 1#1 → ∀ a, off1 a + S1x1x1024.size a ≤ S32x1x1024.size a}
    {hw : pM.view.WordExact} {hv : ∀ h, (slotAt off1 (inb1 h)).view.WordExact}
    {α : Type} {J : PUnit → Prog (TpuEff nD τ sig (Elt F) Λ₀ .tc) α} {Q : α → sProp 𝕄} (hn : n < 32)
    (hc : cond = condW .slt c (BitVec.ofNat 32 n)) (h0 : off0 = ![n])
    (hk : stLeft m ρ K c Fr O (n + 1) ⊢ WP c (J ⟨⟩) Q) :
    stLeft m ρ K c Fr O n ⊢ WP c (if h : cond = 1#1 then (do
        Prog.lift (.waitDma2 (semAt cc0_scratch4 off0 inb0) (slotAt off1 (inb1 h)) pM (hv h) hw)
        J ⟨⟩) else J ⟨⟩) Q :=
  left_step m ρ K c Fr O hO n hn (by rw [hc]; exact cond_slt c ⟨n, hn⟩) h0 hk

theorem ack_word (Fr : sProp 𝕄) (n : ℕ) {cond : BitVec 1} {dv : cond = 1#1 → Dev nD} {α : Type}
    {J : PUnit → Prog (TpuEff nD τ sig (Elt F) Λ₀ .tc) α} {Q : α → sProp 𝕄} (hn : n < 32)
    (hc : cond = condW .sgt c (BitVec.ofNat 32 n)) (hdv : ∀ h, dv h = ⟨n, hn⟩)
    (hk : stAck m ρ K c Fr (n + 1) ⊢ WP c (J ⟨⟩) Q) :
    stAck m ρ K c Fr n ⊢ WP c (if h : cond = 1#1 then (do semSignalWord (dv h) ackS 1#32; J ⟨⟩) else J ⟨⟩) Q :=
  ack_step m ρ K c Fr n hn (by rw [hc]; exact cond_sgt c ⟨n, hn⟩) hdv hk

theorem done_word (Fr : sProp 𝕄) (n : ℕ) {cond : BitVec 1} {α : Type}
    {J : PUnit → Prog (TpuEff nD τ sig (Elt F) Λ₀ .tc) α} {Q : α → sProp 𝕄} (hn : n < 32)
    (hc : cond = condW .slt c (BitVec.ofNat 32 n))
    (hk : stDone m ρ K c Fr (n + 1) ⊢ WP c (J ⟨⟩) Q) :
    stDone m ρ K c Fr n ⊢ WP c (if h : cond = 1#1 then (do semWaitWord ackS 1#32; J ⟨⟩) else J ⟨⟩) Q :=
  done_step m ρ K c Fr n hn (by rw [hc]; exact cond_slt c ⟨n, hn⟩) hk

end Worded

/-- The end of a part. -/
theorem wp_done (c : Dev nD) {α : Type} {St : sProp 𝕄} {Q : α → sProp 𝕄} {r : α} (h : St ⊢ Q r) :
    St ⊢ WP c (Pure.pure r : Prog (TpuEff nD τ sig (Elt F) Λ₀ .tc) α) Q := by
  unfold WP
  rw [Prog.pure_eq_ret, wp_ret]
  iintro H
  imodintro
  iapply h
  iexact H

/-- A part followed by the rest of the program. -/
theorem wp_then (c : Dev nD) {α β : Type} {St : sProp 𝕄} {Q : β → sProp 𝕄} {p : Prog (TpuEff nD τ sig (Elt F) Λ₀ .tc) α}
    {k : α → Prog (TpuEff nD τ sig (Elt F) Λ₀ .tc) β} (h : St ⊢ WP c p (fun a => WP c (k a) Q)) : St ⊢ WP c (p >>= k) Q := by
  unfold WP at h ⊢
  rw [wp_bind]
  exact h

/-- Reading the device's own number. -/
theorem dev_step (c : Dev nD) {α : Type} {St : sProp 𝕄} {Q : α → sProp 𝕄} {k : Dev nD → Prog (TpuEff nD τ sig (Elt F) Λ₀ .tc) α}
    (h : St ⊢ WP c (k c) Q) : St ⊢ WP c (do let d : Dev nD ← Prog.lift .deviceId; k d) Q := by
  unfold WP at h ⊢
  simp only [Prog.lift, Prog.bind_op, Prog.bind_ret]
  rw [wp_deviceId]
  exact h

theorem sep_swap (A B C : sProp 𝕄) : iprop(A ∗ B ∗ C) ⊢ iprop(B ∗ A ∗ C) := by
  iintro ⟨Ha, Hb, Hc⟩
  isplitl [Hb]; · iexact Hb
  isplitl [Ha]; · iexact Ha
  iexact Hc

/-! ## One row sum, one block of the result -/

section Local
variable (c : Dev nD)

/-- The block of the argument, and its row sums, the first `n` in place. -/
def stRow (Fr : sProp 𝕄) (n : ℕ) : sProp 𝕄 := iprop(xPts m ρ c ∗ sUpTo m ρ c n ∗ Fr)

/-- The block of the argument, its row sums, and the result, its first `n` blocks in place. -/
def stOut (Fr : sProp 𝕄) (n : ℕ) : sProp 𝕄 := iprop(xPts m ρ c ∗ oUpTo m ρ c n ∗ sPts c (sv m ρ c) ∗ Fr)

theorem row_step {α : Type} {Q : α → sProp 𝕄} (Fr : sProp 𝕄) (b : ℕ) (hb : b < 8) {off : Fin S2048x1024.rank → ℕ}
    {inb : ∀ a, off a + S256x1024.size a ≤ S2048x1024.size a}
    {hl : xM.view.LoadsAt (Rect.unit (s := S2048x1024) off S256x1024.size inb).toLoadRect}
    {off' : Fin S8x1024.rank → ℕ} {inb' : ∀ a, off' a + S1x1024.size a ≤ S8x1024.size a}
    {hl' : sM.view.LoadsAt (Rect.unit (s := S8x1024) off' S1x1024.size inb').toLoadRect}
    {hx : (sM.access (Rect.unit (s := S8x1024) off' S1x1024.size inb')).Stores Finset.univ}
    {hm : (Finset.univ : Finset (Rect.unit (s := S8x1024) off' S1x1024.size inb').shape.Idx) = Finset.univ ∨ ∀ a, (Rect.unit (s := S8x1024) off' S1x1024.size inb').stride a = 1}
    {pay : Vec F S256x1024 .f32 → Vec F S1x1024 .f32} {p : Prog (TpuEff nD τ sig (Elt F) Λ₀ .tc) α}
    (ho : off = ![256 * b, 0]) (ho' : off' = ![b, 0]) (hw : pay = k0_pay1) (hk : stRow m ρ c Fr (b + 1) ⊢ WP c p Q) :
    stRow m ρ c Fr b ⊢ WP c (do
      let v : Vec F S256x1024 .f32 ← Prog.lift (.load xM (Rect.unit (s := S2048x1024) off S256x1024.size inb).toLoadRect hl)
      let _w : Vec F S1x1024 .f32 ← Prog.lift (.load sM (Rect.unit (s := S8x1024) off' S1x1024.size inb').toLoadRect hl')
      Prog.lift (.store sM (Rect.unit (s := S8x1024) off' S1x1024.size inb') (pay v) Finset.univ hx hm)
      p) Q := by
  subst hw
  refine load_x m ρ c _ ⟨b, hb⟩ ho ((sep_swap _ _ _).trans (load_s m ρ c _ b fun _ => ?_))
  exact store_s m ρ c _ ⟨b, hb⟩ ho' rfl ((sep_swap _ _ _).trans hk)

theorem out_load {α : Type} {Q : α → sProp 𝕄} (Fr : sProp 𝕄) (b : ℕ) (hb : b < 8) {off : Fin S2048x1024.rank → ℕ}
    {inb : ∀ a, off a + S256x1024.size a ≤ S2048x1024.size a}
    {hl : xM.view.LoadsAt (Rect.unit (s := S2048x1024) off S256x1024.size inb).toLoadRect}
    {hl' : oM.view.LoadsAt (Rect.unit (s := S2048x1024) off S256x1024.size inb).toLoadRect}
    {k : Vec F S256x1024 .f32 → Vec F S256x1024 .f32 → Prog (TpuEff nD τ sig (Elt F) Λ₀ .tc) α}
    (ho : off = ![256 * b, 0]) (hk : ∀ w, stOut m ρ c Fr b ⊢ WP c (k (blk (xv m ρ c) ⟨b, hb⟩) w) Q) :
    stOut m ρ c Fr b ⊢ WP c (do
      let v : Vec F S256x1024 .f32 ← Prog.lift (.load xM (Rect.unit (s := S2048x1024) off S256x1024.size inb).toLoadRect hl)
      let w : Vec F S256x1024 .f32 ← Prog.lift (.load oM (Rect.unit (s := S2048x1024) off S256x1024.size inb).toLoadRect hl')
      k v w) Q := by
  refine load_x m ρ c _ ⟨b, hb⟩ ho ((sep_swap _ _ _).trans (load_o m ρ c _ b fun w => ?_))
  exact (sep_swap _ _ _).trans (hk w)

theorem out_store {α : Type} {Q : α → sProp 𝕄} (Fr : sProp 𝕄) (b : ℕ) (hb : b < 8) {off : Fin S2048x1024.rank → ℕ}
    {inb : ∀ a, off a + S256x1024.size a ≤ S2048x1024.size a}
    {hx : (oM.access (Rect.unit (s := S2048x1024) off S256x1024.size inb)).Stores Finset.univ}
    {hm : (Finset.univ : Finset (Rect.unit (s := S2048x1024) off S256x1024.size inb).shape.Idx) = Finset.univ ∨ ∀ a, (Rect.unit (s := S2048x1024) off S256x1024.size inb).stride a = 1}
    {w : Vec F S256x1024 .f32} {p : Prog (TpuEff nD τ sig (Elt F) Λ₀ .tc) α}
    (ho : off = ![256 * b, 0]) (hw : w = blockOut (prefv m ρ c b) (blk (xv m ρ c) ⟨b, hb⟩)) (hk : stOut m ρ c Fr (b + 1) ⊢ WP c p Q) :
    stOut m ρ c Fr b ⊢ WP c (do
      Prog.lift (.store oM (Rect.unit (s := S2048x1024) off S256x1024.size inb) w Finset.univ hx hm)
      p) Q :=
  (sep_swap _ _ _).trans (store_o m ρ c _ ⟨b, hb⟩ ho hw ((sep_swap _ _ _).trans hk))

theorem out_row {α : Type} {Q : α → sProp 𝕄} (Fr : sProp 𝕄) (n b : ℕ) (hb : b < 8)
    {off : Fin S8x1024.rank → ℕ} {inb : ∀ a, off a + S1x1024.size a ≤ S8x1024.size a}
    {hl : sM.view.LoadsAt (Rect.unit (s := S8x1024) off S1x1024.size inb).toLoadRect}
    {k : Vec F S1x1024 .f32 → Prog (TpuEff nD τ sig (Elt F) Λ₀ .tc) α}
    (ho : off = ![b, 0]) (hk : stOut m ρ c Fr n ⊢ WP c (k (rowOf (sv m ρ c) ⟨b, hb⟩)) Q) :
    stOut m ρ c Fr n ⊢ WP c (do
      let v : Vec F S1x1024 .f32 ← Prog.lift (.load sM (Rect.unit (s := S8x1024) off S1x1024.size inb).toLoadRect hl)
      k v) Q := by
  have e1 : stOut m ρ c Fr n ⊢ iprop(sPts c (sv m ρ c) ∗ xPts m ρ c ∗ oUpTo m ρ c n ∗ Fr) := by
    unfold stOut
    iintro ⟨Hx, Ho, Hs, Hf⟩
    isplitl [Hs]; · iexact Hs
    isplitl [Hx]; · iexact Hx
    isplitl [Ho]; · iexact Ho
    iexact Hf
  have e2 : iprop(sPts c (sv m ρ c) ∗ xPts m ρ c ∗ oUpTo m ρ c n ∗ Fr) ⊢ stOut m ρ c Fr n := by
    unfold stOut
    iintro ⟨Hs, Hx, Ho, Hf⟩
    isplitl [Hx]; · iexact Hx
    isplitl [Ho]; · iexact Ho
    isplitl [Hs]; · iexact Hs
    iexact Hf
  exact e1.trans (load_row m ρ c _ ⟨b, hb⟩ ho (e2.trans hk))

/-- A block of the result and the row sum after it. -/
theorem out_step {α : Type} {Q : α → sProp 𝕄} (Fr : sProp 𝕄) (b : ℕ) (hb : b < 8) {off : Fin S2048x1024.rank → ℕ}
    {inb : ∀ a, off a + S256x1024.size a ≤ S2048x1024.size a}
    {hl : xM.view.LoadsAt (Rect.unit (s := S2048x1024) off S256x1024.size inb).toLoadRect}
    {hl' : oM.view.LoadsAt (Rect.unit (s := S2048x1024) off S256x1024.size inb).toLoadRect}
    {hx : (oM.access (Rect.unit (s := S2048x1024) off S256x1024.size inb)).Stores Finset.univ}
    {hm : (Finset.univ : Finset (Rect.unit (s := S2048x1024) off S256x1024.size inb).shape.Idx) = Finset.univ ∨ ∀ a, (Rect.unit (s := S2048x1024) off S256x1024.size inb).stride a = 1}
    {off' : Fin S8x1024.rank → ℕ} {inb' : ∀ a, off' a + S1x1024.size a ≤ S8x1024.size a}
    {hr : sM.view.LoadsAt (Rect.unit (s := S8x1024) off' S1x1024.size inb').toLoadRect}
    {pay : Vec F S256x1024 .f32 → Vec F S256x1024 .f32} {k : Vec F S1x1024 .f32 → Prog (TpuEff nD τ sig (Elt F) Λ₀ .tc) α}
    (ho : off = ![256 * b, 0]) (ho' : off' = ![b, 0])
    (hw : pay (blk (xv m ρ c) ⟨b, hb⟩) = blockOut (prefv m ρ c b) (blk (xv m ρ c) ⟨b, hb⟩))
    (hk : stOut m ρ c Fr (b + 1) ⊢ WP c (k (rowOf (sv m ρ c) ⟨b, hb⟩)) Q) :
    stOut m ρ c Fr b ⊢ WP c (do
      let v : Vec F S256x1024 .f32 ← Prog.lift (.load xM (Rect.unit (s := S2048x1024) off S256x1024.size inb).toLoadRect hl)
      let _w : Vec F S256x1024 .f32 ← Prog.lift (.load oM (Rect.unit (s := S2048x1024) off S256x1024.size inb).toLoadRect hl')
      Prog.lift (.store oM (Rect.unit (s := S2048x1024) off S256x1024.size inb) (pay v) Finset.univ hx hm)
      let r : Vec F S1x1024 .f32 ← Prog.lift (.load sM (Rect.unit (s := S8x1024) off' S1x1024.size inb').toLoadRect hr)
      k r) Q :=
  out_load m ρ c Fr b hb ho fun _ => out_store m ρ c Fr b hb ho hw (out_row m ρ c Fr (b + 1) b hb ho' hk)

theorem prefv_succ (n : ℕ) (h : n < 8) : prefv m ρ c (n + 1) = k0_pay15 (prefv m ρ c n) (rowOf (sv m ρ c) ⟨n, h⟩) := dif_pos h

end Local

end Cert.Scan
-- ==== Proof.Parts1.lean ====
/- The program's parts, each run from one state to another by the steps. What a part hands on from one kind of step to the
   next is left to its caller, as an entailment between the two states. -/
module

public import proofs.«01_k».proof.Proof.Words

@[expose] public section

noncomputable section

namespace Cert.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CellIx → ℕ)

/-! ## Closing a cell -/

section Parts
variable (c : Dev nD) {h0 : xM.IsWhole} {h1 : oM.IsWhole} {h2 : sM.IsWhole} {h3 : pM.IsWhole} {h4 : qM.IsWhole} {h5 : aM.IsWhole}

theorem part1_run {Fr : sProp 𝕄} {Q : (Σ' (_ : Dev nD), BitVec 32) → sProp 𝕄} (h : stRow m ρ c Fr 4 ⊢ Q ⟨c, posW c⟩) :
    stRow m ρ c Fr 0 ⊢ WP c (k0_part1 xM h0 oM h1 sM h2 pM h3 qM h4 aM h5 cc0_scratch4 cc0_scratch5 cc0_scratch6) Q := by
  rw [k0_part1_eq_skeleton]; unfold k0_part1_skel
  refine dev_step c ?_
  iterate 4 refine row_step m ρ c Fr _ (by decide) (by rfl) (by rfl) (by rfl) ?_
  exact wp_done c h

theorem part2_run {Fr Fr1 Fr2 : sProp 𝕄} {v : Vec F S1x1024 .f32} {Q : FVec F S1x1024 .f32 → sProp 𝕄}
    (ht1 : stRow m ρ c Fr 8 ⊢ iprop(sPts c (sv m ρ c) ∗ Fr1)) (ht2 : iprop(sPts c (sv m ρ c) ∗ Fr1) ⊢ iprop(pPts c v ∗ Fr2))
    (h : iprop(pPts c v ∗ Fr2) ⊢ Q (pv m ρ c)) :
    stRow m ρ c Fr 4 ⊢ WP c (k0_part2 xM h0 oM h1 sM h2 pM h3 qM h4 aM h5 cc0_scratch4 cc0_scratch5 cc0_scratch6) Q := by
  rw [k0_part2_eq_skeleton]; unfold k0_part2_skel
  iterate 4 refine row_step m ρ c Fr _ (by decide) (by rfl) (by rfl) (by rfl) ?_
  refine ht1.trans (load_rows m ρ c Fr1 (by rfl) (ht2.trans (load_p c Fr2 v fun _ => ?_)))
  exact wp_done c h

theorem pay10_eq (v : Vec F S1x1024 .f32) : k0_pay10 v = v := funext fun i => congrArg v (Shape.reshapeEquiv_self _ i)

theorem part3_run {Fr Fr1 Fr2 : sProp 𝕄} {R : Tl} {v w : Vec F S1x1024 .f32} {v2 : BitVec 32} {Q : (Σ' (_ : Sems sig S_), BitVec 32) → sProp 𝕄}
    (ht1 : iprop(pPts c (pv m ρ c) ∗ Fr1) ⊢ iprop(accPts c w ∗ Fr2))
    (ht2 : iprop(accPts c k0_pay11 ∗ Fr2) ⊢ stSig m ρ K c Fr R 0)
    (h : stSig m ρ K c Fr R 8 ⊢ Q ⟨SemArray.scalar (sig.barrier 0 rfl), 8#32⟩) :
    iprop(pPts c v ∗ Fr1) ⊢ WP c (k0_part3 xM h0 oM h1 sM h2 pM h3 qM h4 aM h5 cc0_scratch4 cc0_scratch5 cc0_scratch6 c v2 (pv m ρ c)) Q := by
  rw [k0_part3_eq_skeleton]; unfold k0_part3_skel
  rw [pay10_eq]
  extract_lets
  refine store_p c Fr1 v (pv m ρ c) (ht1.trans (load_a c Fr2 w (store_a c Fr2 w k0_pay11 (ht2.trans ?_))))
  iterate 8 refine sig_word m ρ K c Fr R _ (by exact below rfl) (by rfl) (by exact fun _ => rfl) ?_
  exact wp_done c h

theorem part4_run {Fr : sProp 𝕄} {R : Tl} {v2 w : BitVec 32} {Q : BitVec 32 → sProp 𝕄}
    (h : stSig m ρ K c Fr R 18 ⊢ Q 18#32) :
    stSig m ρ K c Fr R 8 ⊢ WP c (k0_part4 xM h0 oM h1 sM h2 pM h3 qM h4 aM h5 cc0_scratch4 cc0_scratch5 cc0_scratch6 c v2
      (SemArray.scalar (sig.barrier 0 rfl)) w) Q := by
  rw [k0_part4_eq_skeleton]; unfold k0_part4_skel
  extract_lets
  iterate 10 refine sig_word m ρ K c Fr R _ (by exact below rfl) (by rfl) (by exact fun _ => rfl) ?_
  exact wp_done c h

theorem part5_run {Fr : sProp 𝕄} {R : Tl} {v2 w : BitVec 32} {Q : BitVec 32 → sProp 𝕄}
    (h : stSig m ρ K c Fr R 28 ⊢ Q 28#32) :
    stSig m ρ K c Fr R 18 ⊢ WP c (k0_part5 xM h0 oM h1 sM h2 pM h3 qM h4 aM h5 cc0_scratch4 cc0_scratch5 cc0_scratch6 c v2
      (SemArray.scalar (sig.barrier 0 rfl)) w) Q := by
  rw [k0_part5_eq_skeleton]; unfold k0_part5_skel
  extract_lets
  iterate 10 refine sig_word m ρ K c Fr R _ (by exact below rfl) (by rfl) (by exact fun _ => rfl) ?_
  exact wp_done c h

theorem part6_run {Fr Fr1 Fr2 : sProp 𝕄} {R O R2 : Tl} (hO : Above 1 O) {v2 w : BitVec 32} {Q : (Σ' (_ : BitVec 32), BitVec 32) → sProp 𝕄}
    (ht1 : stSig m ρ K c Fr R 32 ⊢ iprop(recs m ρ K ∗ Fr1 ∗ OW c O ∗ cred (tallyAt (barCell c) () 31) ∗ atPos ER (barCell c) 0 ∅ 0))
    (ht2 : iprop(recs m ρ K ∗ Fr1 ∗ OW c O ∗ semVal (barCell c) 0 ∗ bigSep Finset.univ (landing (F := F) c)) ⊢ stSend m ρ K c Fr2 R2 0)
    (h : ∀ r, stSend m ρ K c Fr2 R2 5 ⊢ Q r) :
    stSig m ρ K c Fr R 28 ⊢ WP c (k0_part6 xM h0 oM h1 sM h2 pM h3 qM h4 aM h5 cc0_scratch4 cc0_scratch5 cc0_scratch6 c v2
      (SemArray.scalar (sig.barrier 0 rfl)) w) Q := by
  rw [k0_part6_eq_skeleton]; unfold k0_part6_skel
  extract_lets
  iterate 4 refine sig_word m ρ K c Fr R _ (by exact below rfl) (by rfl) (by exact fun _ => rfl) ?_
  refine ht1.trans (bar_wait m ρ K c Fr1 O hO (ht2.trans ?_))
  iterate 5 refine send_word m ρ K c Fr2 R2 _ (by exact below rfl) (by rfl) (by exact fun _ => rfl) (by rfl) (by rfl) (by rfl) ?_
  exact wp_done c (h _)

theorem part7_run {Fr : sProp 𝕄} {R : Tl} {v2 w w' : BitVec 32} {Q : (Σ' (_ : BitVec 32), BitVec 32) → sProp 𝕄}
    (h : ∀ r, stSend m ρ K c Fr R 15 ⊢ Q r) :
    stSend m ρ K c Fr R 5 ⊢ WP c (k0_part7 xM h0 oM h1 sM h2 pM h3 qM h4 aM h5 cc0_scratch4 cc0_scratch5 cc0_scratch6 c v2 w w') Q := by
  rw [k0_part7_eq_skeleton]; unfold k0_part7_skel
  extract_lets
  iterate 10 refine send_word m ρ K c Fr R _ (by exact below rfl) (by rfl) (by exact fun _ => rfl) (by rfl) (by rfl) (by rfl) ?_
  exact wp_done c (h _)

theorem part8_run {Fr : sProp 𝕄} {R : Tl} {v2 w w' : BitVec 32} {Q : (Σ' (_ : BitVec 32), BitVec 32) → sProp 𝕄}
    (h : ∀ r, stSend m ρ K c Fr R 25 ⊢ Q r) :
    stSend m ρ K c Fr R 15 ⊢ WP c (k0_part8 xM h0 oM h1 sM h2 pM h3 qM h4 aM h5 cc0_scratch4 cc0_scratch5 cc0_scratch6 c v2 w w') Q := by
  rw [k0_part8_eq_skeleton]; unfold k0_part8_skel
  extract_lets
  iterate 10 refine send_word m ρ K c Fr R _ (by exact below rfl) (by rfl) (by exact fun _ => rfl) (by rfl) (by rfl) (by rfl) ?_
  exact wp_done c (h _)

end Parts

end Cert.Scan
-- ==== Proof.Parts2.lean ====
/- The program's parts, each run from one state to another by the steps. What a part hands on from one kind of step to the
   next is left to its caller, as an entailment between the two states. -/
module

public import proofs.«01_k».proof.Proof.Words

@[expose] public section

noncomputable section

namespace Cert.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CellIx → ℕ)

/-! ## Closing a cell -/

section Parts
variable (c : Dev nD) {h0 : xM.IsWhole} {h1 : oM.IsWhole} {h2 : sM.IsWhole} {h3 : pM.IsWhole} {h4 : qM.IsWhole} {h5 : aM.IsWhole}

theorem part9_run {Fr Fr2 : sProp 𝕄} {R : Tl} {v2 w w' : BitVec 32}
    {Q : (Σ' (_ : FVec F S256x256 .f32) (_ : FVec F S1x1024 .f32), Vec F S1x1024 .f32) → sProp 𝕄}
    (ht : stSend m ρ K c Fr R 32 ⊢ stOut m ρ c Fr2 0)
    (h : stOut m ρ c Fr2 1 ⊢ Q ⟨k0_pay12, k0_pay13, rowOf (sv m ρ c) 0⟩) :
    stSend m ρ K c Fr R 25 ⊢ WP c (k0_part9 xM h0 oM h1 sM h2 pM h3 qM h4 aM h5 cc0_scratch4 cc0_scratch5 cc0_scratch6 c v2 w w') Q := by
  rw [k0_part9_eq_skeleton]; unfold k0_part9_skel
  extract_lets
  iterate 7 refine send_word m ρ K c Fr R _ (by exact below rfl) (by rfl) (by exact fun _ => rfl) (by rfl) (by rfl) (by rfl) ?_
  refine ht.trans (out_step m ρ c Fr2 0 (by decide) (by rfl) (by rfl) (by rfl) ?_)
  exact wp_done c h

theorem part10_run {Fr : sProp 𝕄} {Q : (Σ' (_ : FVec F S1x1024 .f32), FVec F S256x1024 .f32) → sProp 𝕄}
    (h : ∀ a b, a = prefv m ρ c 4 → b = blockOut (prefv m ρ c 4) (blk (xv m ρ c) 4) → stOut m ρ c Fr 4 ⊢ Q ⟨a, b⟩) :
    stOut m ρ c Fr 1 ⊢ WP c (k0_part10 xM h0 oM h1 sM h2 pM h3 qM h4 aM h5 cc0_scratch4 cc0_scratch5 cc0_scratch6 k0_pay12 k0_pay13 (rowOf (sv m ρ c) 0)) Q := by
  rw [k0_part10_eq_skeleton]; unfold k0_part10_skel
  refine out_step m ρ c Fr 1 (by decide) (by rfl) (by rfl) (by rw [prefv_succ m ρ c 0 (by decide)]; rfl) ?_
  refine out_step m ρ c Fr 2 (by decide) (by rfl) (by rfl)
    (by rw [prefv_succ m ρ c 1 (by decide), prefv_succ m ρ c 0 (by decide)]; rfl) ?_
  refine out_step m ρ c Fr 3 (by decide) (by rfl) (by rfl)
    (by rw [prefv_succ m ρ c 2 (by decide), prefv_succ m ρ c 1 (by decide), prefv_succ m ρ c 0 (by decide)]; rfl) ?_
  refine out_load m ρ c Fr 4 (by decide) (by rfl) fun _ => wp_done c (h _ _ ?_ ?_)
  · rw [prefv_succ m ρ c 3 (by decide), prefv_succ m ρ c 2 (by decide), prefv_succ m ρ c 1 (by decide), prefv_succ m ρ c 0 (by decide)]; rfl
  · rw [prefv_succ m ρ c 3 (by decide), prefv_succ m ρ c 2 (by decide), prefv_succ m ρ c 1 (by decide), prefv_succ m ρ c 0 (by decide)]; rfl

theorem part11_run {Fr Fr2 : sProp 𝕄} {O : Tl} (hO : Above 2 O) {Q : BitVec 1 → sProp 𝕄}
    (ht : stOut m ρ c Fr 8 ⊢ stRecv m ρ K c Fr2 O 0) (h : stRecv m ρ K c Fr2 O 1 ⊢ Q (condW .sgt c 1#32)) :
    stOut m ρ c Fr 4 ⊢ WP c (k0_part11 xM h0 oM h1 sM h2 pM h3 qM h4 aM h5 cc0_scratch4 cc0_scratch5 cc0_scratch6 (posW c) k0_pay12 (prefv m ρ c 4) (blockOut (prefv m ρ c 4) (blk (xv m ρ c) 4))) Q := by
  rw [k0_part11_eq_skeleton]; unfold k0_part11_skel
  extract_lets
  refine out_store m ρ c Fr 4 (by decide) (by rfl) (by rfl) (out_row m ρ c Fr 5 4 (by decide) (by rfl) ?_)
  refine out_step m ρ c Fr 5 (by decide) (by rfl) (by rfl) (by rw [prefv_succ m ρ c 4 (by decide)]; rfl) ?_
  refine out_step m ρ c Fr 6 (by decide) (by rfl) (by rfl)
    (by rw [prefv_succ m ρ c 5 (by decide), prefv_succ m ρ c 4 (by decide)]; rfl) ?_
  refine out_load m ρ c Fr 7 (by decide) (by rfl) fun _ => out_store m ρ c Fr 7 (by decide) (by rfl)
    (by rw [prefv_succ m ρ c 6 (by decide), prefv_succ m ρ c 5 (by decide), prefv_succ m ρ c 4 (by decide)]; rfl) (ht.trans ?_)
  refine recv_word m ρ K c Fr2 O hO _ (by exact below rfl) (by rfl) (by rfl) (by rfl) (by rfl) ?_
  exact wp_done c h

theorem part12_run {Fr : sProp 𝕄} {O : Tl} (hO : Above 2 O) {Q : BitVec 1 → sProp 𝕄}
    (h : stRecv m ρ K c Fr O 11 ⊢ Q (condW .sgt c 11#32)) :
    stRecv m ρ K c Fr O 1 ⊢ WP c (k0_part12 xM h0 oM h1 sM h2 pM h3 qM h4 aM h5 cc0_scratch4 cc0_scratch5 cc0_scratch6 (posW c) (condW .sgt c 1#32)) Q := by
  rw [k0_part12_eq_skeleton]; unfold k0_part12_skel
  extract_lets
  iterate 10 refine recv_word m ρ K c Fr O hO _ (by exact below rfl) (by rfl) (by rfl) (by rfl) (by rfl) ?_
  exact wp_done c h

theorem part13_run {Fr : sProp 𝕄} {O : Tl} (hO : Above 2 O) {Q : BitVec 1 → sProp 𝕄}
    (h : stRecv m ρ K c Fr O 21 ⊢ Q (condW .sgt c 21#32)) :
    stRecv m ρ K c Fr O 11 ⊢ WP c (k0_part13 xM h0 oM h1 sM h2 pM h3 qM h4 aM h5 cc0_scratch4 cc0_scratch5 cc0_scratch6 (posW c) (condW .sgt c 11#32)) Q := by
  rw [k0_part13_eq_skeleton]; unfold k0_part13_skel
  extract_lets
  iterate 10 refine recv_word m ρ K c Fr O hO _ (by exact below rfl) (by rfl) (by rfl) (by rfl) (by rfl) ?_
  exact wp_done c h

theorem part14_run {Fr : sProp 𝕄} {O : Tl} (hO : Above 2 O) {Q : BitVec 1 → sProp 𝕄}
    (h : stRecv m ρ K c Fr O 31 ⊢ Q (condW .sgt c 31#32)) :
    stRecv m ρ K c Fr O 21 ⊢ WP c (k0_part14 xM h0 oM h1 sM h2 pM h3 qM h4 aM h5 cc0_scratch4 cc0_scratch5 cc0_scratch6 (posW c) (condW .sgt c 21#32)) Q := by
  rw [k0_part14_eq_skeleton]; unfold k0_part14_skel
  extract_lets
  iterate 10 refine recv_word m ρ K c Fr O hO _ (by exact below rfl) (by rfl) (by rfl) (by rfl) (by rfl) ?_
  exact wp_done c h

theorem part15_run {Fr Fr1 Fr2 : sProp 𝕄} {O O2 : Tl} (hO : Above 2 O) (hO2 : Above 0 O2) {v : Vec F S2048x1024 .f32}
    {a : Vec F S1x1024 .f32} {Q : (Σ' (_ : BitVec 32), BitVec 32) → sProp 𝕄}
    (ht1 : stRecv m ρ K c Fr O 32 ⊢ iprop(oPts c v ∗ accPts c a ∗ Fr1))
    (ht2 : iprop(oPts c (k0_pay60 v a) ∗ accPts c a ∗ Fr1) ⊢ stLeft m ρ K c Fr2 O2 0)
    (h : ∀ r, stLeft m ρ K c Fr2 O2 7 ⊢ Q r) :
    stRecv m ρ K c Fr O 31 ⊢ WP c (k0_part15 xM h0 oM h1 sM h2 pM h3 qM h4 aM h5 cc0_scratch4 cc0_scratch5 cc0_scratch6 c (posW c) (condW .sgt c 31#32)) Q := by
  rw [k0_part15_eq_skeleton]; unfold k0_part15_skel
  extract_lets
  refine recv_word m ρ K c Fr O hO _ (by exact below rfl) (by rfl) (by rfl) (by rfl) (by rfl) ?_
  refine ht1.trans (load_out c _ v ((sep_swap _ _ _).trans (load_a c _ a ((sep_swap _ _ _).trans
    (load_out c _ v (store_out c _ v (k0_pay60 v a) (ht2.trans ?_)))))))
  iterate 7 refine left_word m ρ K c Fr2 O2 hO2 _ (by exact below rfl) (by rfl) (by rfl) ?_
  exact wp_done c (h _)

theorem part16_run {Fr : sProp 𝕄} {O : Tl} (hO : Above 0 O) {v2 w w' : BitVec 32} {Q : (Σ' (_ : BitVec 32), BitVec 32) → sProp 𝕄}
    (h : ∀ r, stLeft m ρ K c Fr O 17 ⊢ Q r) :
    stLeft m ρ K c Fr O 7 ⊢ WP c (k0_part16 xM h0 oM h1 sM h2 pM h3 qM h4 aM h5 cc0_scratch4 cc0_scratch5 cc0_scratch6 c v2 w w') Q := by
  rw [k0_part16_eq_skeleton]; unfold k0_part16_skel
  extract_lets
  iterate 10 refine left_word m ρ K c Fr O hO _ (by exact below rfl) (by rfl) (by rfl) ?_
  exact wp_done c (h _)

theorem part17_run {Fr : sProp 𝕄} {O : Tl} (hO : Above 0 O) {v2 w w' : BitVec 32} {Q : (Σ' (_ : BitVec 32), BitVec 32) → sProp 𝕄}
    (h : ∀ r, stLeft m ρ K c Fr O 27 ⊢ Q r) :
    stLeft m ρ K c Fr O 17 ⊢ WP c (k0_part17 xM h0 oM h1 sM h2 pM h3 qM h4 aM h5 cc0_scratch4 cc0_scratch5 cc0_scratch6 c v2 w w') Q := by
  rw [k0_part17_eq_skeleton]; unfold k0_part17_skel
  extract_lets
  iterate 10 refine left_word m ρ K c Fr O hO _ (by exact below rfl) (by rfl) (by rfl) ?_
  exact wp_done c (h _)

end Parts

end Cert.Scan
-- ==== Proof.Parts3.lean ====
/- The program's parts, each run from one state to another by the steps. What a part hands on from one kind of step to the
   next is left to its caller, as an entailment between the two states. -/
module

public import proofs.«01_k».proof.Proof.Words

@[expose] public section

noncomputable section

namespace Cert.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CellIx → ℕ)

/-! ## Closing a cell -/

section Parts
variable (c : Dev nD) {h0 : xM.IsWhole} {h1 : oM.IsWhole} {h2 : sM.IsWhole} {h3 : pM.IsWhole} {h4 : qM.IsWhole} {h5 : aM.IsWhole}

theorem part18_run {Fr Fr2 : sProp 𝕄} {O : Tl} (hO : Above 0 O) {v2 w w' : BitVec 32} {Q : (Σ' (_ : BitVec 32), BitVec 32) → sProp 𝕄}
    (ht : stLeft m ρ K c Fr O 32 ⊢ stAck m ρ K c Fr2 0) (h : ∀ r, stAck m ρ K c Fr2 5 ⊢ Q r) :
    stLeft m ρ K c Fr O 27 ⊢ WP c (k0_part18 xM h0 oM h1 sM h2 pM h3 qM h4 aM h5 cc0_scratch4 cc0_scratch5 cc0_scratch6 c v2 w w') Q := by
  rw [k0_part18_eq_skeleton]; unfold k0_part18_skel
  extract_lets
  iterate 5 refine left_word m ρ K c Fr O hO _ (by exact below rfl) (by rfl) (by rfl) ?_
  refine ht.trans ?_
  iterate 5 refine ack_word m ρ K c Fr2 _ (by exact below rfl) (by rfl) (by exact fun _ => rfl) ?_
  exact wp_done c (h _)

theorem part19_run {Fr : sProp 𝕄} {v2 w w' : BitVec 32} {Q : (Σ' (_ : BitVec 32), BitVec 32) → sProp 𝕄}
    (h : ∀ r, stAck m ρ K c Fr 15 ⊢ Q r) :
    stAck m ρ K c Fr 5 ⊢ WP c (k0_part19 xM h0 oM h1 sM h2 pM h3 qM h4 aM h5 cc0_scratch4 cc0_scratch5 cc0_scratch6 c v2 w w') Q := by
  rw [k0_part19_eq_skeleton]; unfold k0_part19_skel
  extract_lets
  iterate 10 refine ack_word m ρ K c Fr _ (by exact below rfl) (by rfl) (by exact fun _ => rfl) ?_
  exact wp_done c (h _)

theorem part20_run {Fr : sProp 𝕄} {v2 w w' : BitVec 32} {Q : (Σ' (_ : BitVec 32), BitVec 32) → sProp 𝕄}
    (h : ∀ r, stAck m ρ K c Fr 25 ⊢ Q r) :
    stAck m ρ K c Fr 15 ⊢ WP c (k0_part20 xM h0 oM h1 sM h2 pM h3 qM h4 aM h5 cc0_scratch4 cc0_scratch5 cc0_scratch6 c v2 w w') Q := by
  rw [k0_part20_eq_skeleton]; unfold k0_part20_skel
  extract_lets
  iterate 10 refine ack_word m ρ K c Fr _ (by exact below rfl) (by rfl) (by exact fun _ => rfl) ?_
  exact wp_done c (h _)

theorem part21_run {Fr Fr2 : sProp 𝕄} {w w' : BitVec 32} {Q : (Σ' (_ : BitVec 32), BitVec 32) → sProp 𝕄}
    (ht : stAck m ρ K c Fr 32 ⊢ stDone m ρ K c Fr2 0) (h : stDone m ρ K c Fr2 3 ⊢ Q ⟨cmpW .slt c 3#32, 0#32⟩) :
    stAck m ρ K c Fr 25 ⊢ WP c (k0_part21 xM h0 oM h1 sM h2 pM h3 qM h4 aM h5 cc0_scratch4 cc0_scratch5 cc0_scratch6 c (posW c) w w') Q := by
  rw [k0_part21_eq_skeleton]; unfold k0_part21_skel
  extract_lets
  iterate 7 refine ack_word m ρ K c Fr _ (by exact below rfl) (by rfl) (by exact fun _ => rfl) ?_
  refine ht.trans ?_
  iterate 3 refine done_word m ρ K c Fr2 _ (by exact below rfl) (by rfl) ?_
  exact wp_done c h

theorem part22_run {Fr : sProp 𝕄} {Q : (Σ' (_ : BitVec 32), BitVec 32) → sProp 𝕄} (h : stDone m ρ K c Fr 13 ⊢ Q ⟨cmpW .slt c 13#32, 0#32⟩) :
    stDone m ρ K c Fr 3 ⊢ WP c (k0_part22 xM h0 oM h1 sM h2 pM h3 qM h4 aM h5 cc0_scratch4 cc0_scratch5 cc0_scratch6 (posW c) (cmpW .slt c 3#32) 0#32) Q := by
  rw [k0_part22_eq_skeleton]; unfold k0_part22_skel
  extract_lets
  iterate 10 refine done_word m ρ K c Fr _ (by exact below rfl) (by rfl) ?_
  exact wp_done c h

theorem part23_run {Fr : sProp 𝕄} {Q : (Σ' (_ : BitVec 32), BitVec 32) → sProp 𝕄} (h : stDone m ρ K c Fr 23 ⊢ Q ⟨cmpW .slt c 23#32, 0#32⟩) :
    stDone m ρ K c Fr 13 ⊢ WP c (k0_part23 xM h0 oM h1 sM h2 pM h3 qM h4 aM h5 cc0_scratch4 cc0_scratch5 cc0_scratch6 (posW c) (cmpW .slt c 13#32) 0#32) Q := by
  rw [k0_part23_eq_skeleton]; unfold k0_part23_skel
  extract_lets
  iterate 10 refine done_word m ρ K c Fr _ (by exact below rfl) (by rfl) ?_
  exact wp_done c h

end Parts

end Cert.Scan
-- ==== Proof.Body.lean ====
/- The whole body, from what a device starts with to what it ends with: the parts in order, and between two kinds of
   steps the regrouping of what the device holds. -/
module

public import proofs.«01_k».proof.Proof.Parts1
public import proofs.«01_k».proof.Proof.Parts2
public import proofs.«01_k».proof.Proof.Parts3

@[expose] public section

noncomputable section

namespace Cert.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CellIx → ℕ)

/-! ## Closing a cell -/

section Body
variable (c : Dev nD)

/-! ## What a device holds for each kind of step -/

/-- For the signals: the right to signal every device's barrier. -/
def gSig : sProp 𝕄 := bigSep Finset.univ fun j : Fin 32 => dutyTok ER (barCell j) 0 c
/-- For the barrier: 31 units to come, and the position before the wait. -/
def gBar : sProp 𝕄 := iprop(cred (tallyAt (barCell c) () 31) ∗ atPos ER (barCell c) 0 ∅ 0)
/-- For the transfers: the rights at both ends. -/
def gSend : sProp 𝕄 := bigSep Finset.univ fun j : Fin 32 => iprop(dutyTok ER (sendCell c j) 0 j ∗ dutyTok ER (recvCell j c) 0 c)
/-- For the receives: the bytes to come from every earlier device, and the positions before the waits. -/
def gRecv : sProp 𝕄 := bigSep Finset.univ fun j : Fin 32 =>
  iprop((if j < c then cred (tallyAt (recvCell c j) () N) else iprop(emp)) ∗ atPos ER (recvCell c j) 0 ∅ 0)
/-- For the waits on the transfers out: the positions before the waits. -/
def gLeft : sProp 𝕄 := bigSep Finset.univ fun j : Fin 32 => atPos ER (sendCell c j) 0 ∅ 0
/-- For the acknowledgements: the rights to give them, the units to come, the position. -/
def gAck : sProp 𝕄 := bigSep Finset.univ (ackB (F := F) c)
def gDone : sProp 𝕄 := iprop(ackPos (F := F) c 0 ∗ bigSep Finset.univ (ackC (F := F) c))
/-- The landing buffer, slot by slot. -/
def slots : sProp 𝕄 := bigSep Finset.univ (slotAny (F := F) c)
/-- What the steps from the receives on use. -/
def gTail : sProp 𝕄 := iprop(gRecv (F := F) c ∗ gLeft (F := F) c ∗ gAck (F := F) c ∗ gDone (F := F) c)

/-- What is owed after the signals, and after the transfers. -/
abbrev O₁ : Tl := rest (recvO c) 0 + rest (ackO c) 0
abbrev O₂ : Tl := rest (ackO c) 0

/-! ## What is set aside during each kind of step -/

variable (p a : Vec F S1x1024 .f32) (o : Vec F S2048x1024 .f32)

def fr0 : sProp 𝕄 :=
  iprop(recs m ρ K ∗ OW c (O₀ c) ∗ slots (F := F) c ∗ gSig (F := F) c ∗ gBar (F := F) c ∗ gSend (F := F) c ∗ gTail (F := F) c)
def frRow : sProp 𝕄 := iprop(pPts c p ∗ accPts c a ∗ oPts c o ∗ fr0 m ρ K c)
def frP : sProp 𝕄 := iprop(accPts c a ∗ sPts c (sv m ρ c) ∗ xPts m ρ c ∗ oPts c o ∗ fr0 m ρ K c)
def frA : sProp 𝕄 := iprop(pPts c (pv m ρ c) ∗ sPts c (sv m ρ c) ∗ xPts m ρ c ∗ oPts c o ∗ fr0 m ρ K c)
def frMem : sProp 𝕄 := iprop(accPts c (av m ρ c 0) ∗ sPts c (sv m ρ c) ∗ xPts m ρ c ∗ oPts c o)
def frSig : sProp 𝕄 := iprop(pPts c (pv m ρ c) ∗ frMem m ρ c o ∗ gBar (F := F) c ∗ gSend (F := F) c ∗ gTail (F := F) c)
def frBar : sProp 𝕄 := iprop(pPts c (pv m ρ c) ∗ frMem m ρ c o ∗ gSend (F := F) c ∗ gTail (F := F) c ∗ bigSep Finset.univ (sigA (F := F) c))
def frSend : sProp 𝕄 := iprop(frMem m ρ c o ∗ semVal (barCell c) 0 ∗ gTail (F := F) c ∗ bigSep Finset.univ (sigA (F := F) c))
def frOut : sProp 𝕄 := iprop(recs m ρ K ∗ OW c (O₂ c) ∗ accPts c (av m ρ c 0) ∗ semVal (barCell c) 0 ∗ gTail (F := F) c
  ∗ bigSep Finset.univ (sigA (F := F) c) ∗ bigSep Finset.univ (sendA (F := F) m ρ c))
def frRecv : sProp 𝕄 := iprop(xPts m ρ c ∗ oPts c (ov m ρ c) ∗ sPts c (sv m ρ c) ∗ semVal (barCell c) 0 ∗ gLeft (F := F) c ∗ gAck (F := F) c
  ∗ gDone (F := F) c ∗ bigSep Finset.univ (sendA (F := F) m ρ c))
def frAdd : sProp 𝕄 := iprop(recs m ρ K ∗ OW c (O₂ c) ∗ bigSep Finset.univ (recvA (F := F) c) ∗ xPts m ρ c ∗ sPts c (sv m ρ c)
  ∗ semVal (barCell c) 0 ∗ gLeft (F := F) c ∗ gAck (F := F) c ∗ gDone (F := F) c ∗ bigSep Finset.univ (sendA (F := F) m ρ c))
def frEnd : sProp 𝕄 := iprop(oPts c (outv m ρ c) ∗ accPts c (av m ρ c 32) ∗ bigSep Finset.univ (recvA (F := F) c) ∗ xPts m ρ c ∗ sPts c (sv m ρ c)
  ∗ semVal (barCell c) 0)
def frLeft : sProp 𝕄 := iprop(frEnd m ρ c ∗ gAck (F := F) c ∗ gDone (F := F) c)
def frAck : sProp 𝕄 := iprop(frEnd m ρ c ∗ bigSep Finset.univ (leftA (F := F) m ρ c) ∗ gDone (F := F) c)
def frDone : sProp 𝕄 := iprop(frEnd m ρ c ∗ bigSep Finset.univ (leftA (F := F) m ρ c))

/-! ## From one kind of step to the next -/

theorem to_row (s : Vec F S8x1024 .f32) :
    iprop(xPts m ρ c ∗ sPts c s ∗ frRow m ρ K c p a o) ⊢ stRow m ρ c (frRow m ρ K c p a o) 0 := by
  unfold stRow sUpTo
  iintro ⟨Hx, Hs, Hf⟩
  isplitl [Hx]; · iexact Hx
  isplitl [Hs]
  · iexists s
    isplitr; · ipureintro; exact fun i h => absurd h (Nat.not_lt_zero _)
    iexact Hs
  iexact Hf

theorem row_to_sum : stRow m ρ c (frRow m ρ K c p a o) 8 ⊢ iprop(sPts c (sv m ρ c) ∗ xPts m ρ c ∗ frRow m ρ K c p a o) := by
  unfold stRow
  iintro ⟨Hx, Hs, Hf⟩
  ihave Hs := (sUpTo_full m ρ c) $$ Hs
  isplitl [Hs]; · iexact Hs
  isplitl [Hx]; · iexact Hx
  iexact Hf

theorem sum_to_p : iprop(sPts c (sv m ρ c) ∗ xPts m ρ c ∗ frRow m ρ K c p a o) ⊢ iprop(pPts c p ∗ frP m ρ K c a o) := by
  unfold frRow frP
  iintro ⟨Hs, Hx, Hp, Ha, Ho, Hf⟩
  isplitl [Hp]; · iexact Hp
  isplitl [Ha]; · iexact Ha
  isplitl [Hs]; · iexact Hs
  isplitl [Hx]; · iexact Hx
  isplitl [Ho]; · iexact Ho
  iexact Hf

theorem p_to_a : iprop(pPts c (pv m ρ c) ∗ frP m ρ K c a o) ⊢ iprop(accPts c a ∗ frA m ρ K c o) := by
  unfold frP frA
  exact sep_swap _ _ _

theorem a_to_sig : iprop(accPts c k0_pay11 ∗ frA m ρ K c o) ⊢ stSig m ρ K c (frSig m ρ c o) (O₁ c) 0 := by
  unfold frA fr0 stSig frSig frMem slots gSig
  rw [phase_zero]
  simp only [show sigB (F := F) c = fun j => iprop(dutyTok ER (barCell j) 0 c ∗ slotAny c j) from rfl, bigSep_sep']
  iintro ⟨Ha, Hp, Hs, Hx, Ho, #HR, HO, Hsl, Hsig, Hb, Hsend, Ht⟩
  isplitr; · iexact HR
  isplitl [Ha Hp Hs Hx Ho Hb Hsend Ht]
  · isplitl [Hp]; · iexact Hp
    isplitl [Ha Hs Hx Ho]
    · isplitl [Ha]; · iexact Ha
      isplitl [Hs]; · iexact Hs
      isplitl [Hx]; · iexact Hx
      iexact Ho
    isplitl [Hb]; · iexact Hb
    isplitl [Hsend]; · iexact Hsend
    iexact Ht
  isplitl [HO]; · iexact HO
  isplitl [Hsig]; · iexact Hsig
  iexact Hsl

theorem sig_to_bar : stSig m ρ K c (frSig m ρ c o) (O₁ c) 32
    ⊢ iprop(recs m ρ K ∗ frBar m ρ c o ∗ OW c (O₁ c) ∗ cred (tallyAt (barCell c) () 31) ∗ atPos ER (barCell c) 0 ∅ 0) := by
  unfold stSig frSig frBar gBar
  rw [phase_end, rest_end, zero_add]
  iintro ⟨#HR, ⟨Hp, Hm, ⟨Hc, Hat⟩, Hsend, Ht⟩, HO, Hsl⟩
  isplitr; · iexact HR
  isplitl [Hp Hm Hsend Ht Hsl]
  · isplitl [Hp]; · iexact Hp
    isplitl [Hm]; · iexact Hm
    isplitl [Hsend]; · iexact Hsend
    isplitl [Ht]; · iexact Ht
    iexact Hsl
  isplitl [HO]; · iexact HO
  isplitl [Hc]; · iexact Hc
  iexact Hat

/-- The sum's buffer in 32 equal shares. -/
theorem p_shares : (pPts c (pv m ρ c) : sProp 𝕄) = bigSep Finset.univ (pShare (F := F) m ρ c) := by
  unfold pPts pShare
  rw [show pM.view.set = Finset.univ from View.set_whole _]
  exact ShareLeaves.pointsTo_leaves _ _ 5 fullShare

theorem bar_to_send : iprop(recs m ρ K ∗ frBar m ρ c o ∗ OW c (O₁ c) ∗ semVal (barCell c) 0 ∗ bigSep Finset.univ (landing (F := F) c))
    ⊢ stSend m ρ K c (frSend m ρ c o) (O₂ c) 0 := by
  unfold stSend frSend frBar gSend
  rw [phase_zero, p_shares]
  simp only [show sendB (F := F) m ρ c = fun j => iprop(landing (F := F) c j ∗ dutyTok ER (sendCell c j) 0 j ∗ dutyTok ER (recvCell j c) 0 c ∗ pShare m ρ c j) from rfl, bigSep_sep']
  iintro ⟨#HR, ⟨Hp, Hm, ⟨Ht1, Ht2⟩, Ht, Hsl⟩, HO, Hv, Hl⟩
  isplitr; · iexact HR
  isplitl [Hm Hv Ht Hsl]
  · isplitl [Hm]; · iexact Hm
    isplitl [Hv]; · iexact Hv
    isplitl [Ht]; · iexact Ht
    iexact Hsl
  isplitl [HO]; · iexact HO
  isplitl [Hl]; · iexact Hl
  isplitl [Ht1]; · iexact Ht1
  isplitl [Ht2]; · iexact Ht2
  iexact Hp

theorem send_to_out : stSend m ρ K c (frSend m ρ c o) (O₂ c) 32 ⊢ stOut m ρ c (frOut m ρ K c) 0 := by
  unfold stSend frSend stOut frOut frMem oUpTo
  rw [phase_end, rest_end, zero_add]
  iintro ⟨#HR, ⟨⟨Ha, Hs, Hx, Ho⟩, Hv, Ht, Hsl⟩, HO, Hsend⟩
  isplitl [Hx]; · iexact Hx
  isplitl [Ho]
  · iexists o
    isplitr; · ipureintro; exact fun i h => absurd h (Nat.not_lt_zero _)
    iexact Ho
  isplitl [Hs]; · iexact Hs
  isplitr; · iexact HR
  isplitl [HO]; · iexact HO
  isplitl [Ha]; · iexact Ha
  isplitl [Hv]; · iexact Hv
  isplitl [Ht]; · iexact Ht
  isplitl [Hsl]; · iexact Hsl
  iexact Hsend

theorem out_to_recv : stOut m ρ c (frOut m ρ K c) 8 ⊢ stRecv m ρ K c (frRecv m ρ c) (O₂ c) 0 := by
  unfold stOut frOut stRecv frRecv gTail gRecv
  rw [phase_zero]
  simp only [show recvB (F := F) c = fun j => iprop((if j < c then cred (tallyAt (recvCell c j) () N) else iprop(emp)) ∗ atPos ER (recvCell c j) 0 ∅ 0
    ∗ sigA c j) from rfl, bigSep_sep']
  iintro ⟨Hx, Ho, Hs, #HR, HO, Ha, Hv, ⟨⟨Hc, Hat⟩, Hleft, Hack, Hdone⟩, Hsl, Hsend⟩
  ihave Ho := (oUpTo_full m ρ c) $$ Ho
  isplitr; · iexact HR
  isplitl [Hx Ho Hs Hv Hleft Hack Hdone Hsend]
  · isplitl [Hx]; · iexact Hx
    isplitl [Ho]; · iexact Ho
    isplitl [Hs]; · iexact Hs
    isplitl [Hv]; · iexact Hv
    isplitl [Hleft]; · iexact Hleft
    isplitl [Hack]; · iexact Hack
    isplitl [Hdone]; · iexact Hdone
    iexact Hsend
  isplitl [HO]; · iexact HO
  isplitl [Ha]; · iexact Ha
  isplitl [Hc]; · iexact Hc
  isplitl [Hat]; · iexact Hat
  iexact Hsl

theorem recv_to_add : stRecv m ρ K c (frRecv m ρ c) (O₂ c) 32 ⊢ iprop(oPts c (ov m ρ c) ∗ accPts c (av m ρ c 32) ∗ frAdd m ρ K c) := by
  unfold stRecv frRecv frAdd
  rw [phase_end]
  iintro ⟨#HR, ⟨Hx, Ho, Hs, Hv, Hleft, Hack, Hdone, Hsend⟩, HO, Ha, Hr⟩
  isplitl [Ho]; · iexact Ho
  isplitl [Ha]; · iexact Ha
  isplitr; · iexact HR
  isplitl [HO]; · iexact HO
  isplitl [Hr]; · iexact Hr
  isplitl [Hx]; · iexact Hx
  isplitl [Hs]; · iexact Hs
  isplitl [Hv]; · iexact Hv
  isplitl [Hleft]; · iexact Hleft
  isplitl [Hack]; · iexact Hack
  isplitl [Hdone]; · iexact Hdone
  iexact Hsend

theorem add_to_left : iprop(oPts c (outv m ρ c) ∗ accPts c (av m ρ c 32) ∗ frAdd m ρ K c) ⊢ stLeft m ρ K c (frLeft m ρ c) (O₂ c) 0 := by
  unfold frAdd stLeft frLeft frEnd gLeft
  rw [phase_zero]
  simp only [show leftB (F := F) m ρ c = fun j => iprop(sendA m ρ c j ∗ atPos ER (sendCell c j) 0 ∅ 0) from rfl, bigSep_sep']
  iintro ⟨Ho, Ha, #HR, HO, Hr, Hx, Hs, Hv, Hleft, Hack, Hdone, Hsend⟩
  isplitr; · iexact HR
  isplitl [Ho Ha Hr Hx Hs Hv Hack Hdone]
  · isplitl [Ho Ha Hr Hx Hs Hv]
    · isplitl [Ho]; · iexact Ho
      isplitl [Ha]; · iexact Ha
      isplitl [Hr]; · iexact Hr
      isplitl [Hx]; · iexact Hx
      isplitl [Hs]; · iexact Hs
      iexact Hv
    isplitl [Hack]; · iexact Hack
    iexact Hdone
  isplitl [HO]; · iexact HO
  isplitl [Hsend]; · iexact Hsend
  iexact Hleft

theorem left_to_ack : stLeft m ρ K c (frLeft m ρ c) (O₂ c) 32 ⊢ stAck m ρ K c (frAck m ρ c) 0 := by
  unfold stLeft stAck frLeft frAck gAck
  rw [phase_end, phase_zero]
  iintro ⟨#HR, ⟨He, Hack, Hdone⟩, HO, Hl⟩
  isplitr; · iexact HR
  isplitl [He Hl Hdone]
  · isplitl [He]; · iexact He
    isplitl [Hl]; · iexact Hl
    iexact Hdone
  isplitl [HO]; · iexact HO
  iexact Hack

theorem ack_to_done : stAck m ρ K c (frAck m ρ c) 32 ⊢ stDone m ρ K c (frDone m ρ c) 0 := by
  unfold stAck stDone frAck frDone gDone
  rw [phase_zero, rest_end]
  iintro ⟨#HR, ⟨He, Hl, ⟨Hat, Hc⟩⟩, HO, -⟩
  isplitr; · iexact HR
  isplitl [He Hl]
  · isplitl [He]; · iexact He
    iexact Hl
  isplitl [HO]; · iexact HO
  isplitl [Hat]; · iexact Hat
  iexact Hc

/-! ## The parts in order -/

variable {h0 : xM.IsWhole} {h1 : oM.IsWhole} {h2 : sM.IsWhole} {h3 : pM.IsWhole} {h4 : qM.IsWhole} {h5 : aM.IsWhole}

theorem above_O₁ : Above 1 (O₁ c) := above_add (above_recv (by decide) c 0) (above_ack (by decide) c 0)

set_option maxHeartbeats 1600000 in
theorem part24_run {Q : (Σ' (_ : BitVec 32), BitVec 1) → sProp 𝕄}
    (h : stDone m ρ K c (frDone m ρ c) 29 ⊢ Q ⟨posW c, condW .slt c 29#32⟩) :
    stRow m ρ c (frRow m ρ K c p a o) 0 ⊢ WP c (k0_part24 xM h0 oM h1 sM h2 pM h3 qM h4 aM h5 cc0_scratch4 cc0_scratch5 cc0_scratch6) Q := by
  rw [k0_part24_eq_skeleton]; unfold k0_part24_skel
  have a2 : Above 2 (O₂ c) := above_ack (by decide) c 0
  have a0 : Above 0 (O₂ c) := above_ack (by decide) c 0
  refine wp_then c (part1_run m ρ c ?_)
  refine wp_then c (part2_run m ρ c (row_to_sum m ρ K c p a o) (sum_to_p m ρ K c p a o) ?_)
  refine wp_then c (part3_run m ρ K c (p_to_a m ρ K c a o) (a_to_sig m ρ K c o) ?_)
  refine wp_then c (part4_run m ρ K c ?_)
  refine wp_then c (part5_run m ρ K c ?_)
  refine wp_then c (part6_run m ρ K c (above_O₁ c) (sig_to_bar m ρ K c o) (bar_to_send m ρ K c o) ?_)
  rintro ⟨_, _⟩
  refine wp_then c (part7_run m ρ K c ?_)
  rintro ⟨_, _⟩
  refine wp_then c (part8_run m ρ K c ?_)
  rintro ⟨_, _⟩
  refine wp_then c (part9_run m ρ K c (send_to_out m ρ K c o) ?_)
  refine wp_then c (part10_run m ρ c ?_)
  rintro _ _ rfl rfl
  refine wp_then c (part11_run m ρ K c a2 (out_to_recv m ρ K c) ?_)
  refine wp_then c (part12_run m ρ K c a2 ?_)
  refine wp_then c (part13_run m ρ K c a2 ?_)
  refine wp_then c (part14_run m ρ K c a2 ?_)
  refine wp_then c (part15_run m ρ K c a2 a0 (recv_to_add m ρ K c) (add_to_left m ρ K c) ?_)
  rintro ⟨_, _⟩
  refine wp_then c (part16_run m ρ K c a0 ?_)
  rintro ⟨_, _⟩
  refine wp_then c (part17_run m ρ K c a0 ?_)
  rintro ⟨_, _⟩
  refine wp_then c (part18_run m ρ K c a0 (left_to_ack m ρ K c) ?_)
  rintro ⟨_, _⟩
  refine wp_then c (part19_run m ρ K c ?_)
  rintro ⟨_, _⟩
  refine wp_then c (part20_run m ρ K c ?_)
  rintro ⟨_, _⟩
  refine wp_then c (part21_run m ρ K c (ack_to_done m ρ K c) ?_)
  refine wp_then c (part22_run m ρ K c ?_)
  refine wp_then c (part23_run m ρ K c ?_)
  dsimp -zeta only
  extract_lets
  iterate 6 refine done_word m ρ K c _ _ (by exact below rfl) (by rfl) ?_
  exact wp_done c h

/-- The end of a program, with an update. -/
theorem wp_end {α : Type} {St : sProp 𝕄} {Q : α → sProp 𝕄} {r : α} (h : St ⊢ iprop(|={Set.univ}=> Q r)) :
    St ⊢ WP c (Pure.pure r : Prog (TpuEff nD τ sig (Elt F) Λ₀ .tc) α) Q := by
  unfold WP
  rw [Prog.pure_eq_ret, wp_ret]
  exact h

/-- The body, from the start to the last wait. -/
theorem body_run {Q : PUnit → sProp 𝕄} (h : stDone m ρ K c (frDone m ρ c) 32 ⊢ iprop(|={Set.univ}=> Q ⟨⟩)) :
    stRow m ρ c (frRow m ρ K c p a o) 0 ⊢ WP c (cc0_body xM h0 oM h1 sM h2 pM h3 qM h4 aM h5 cc0_scratch4 cc0_scratch5 cc0_scratch6) Q := by
  unfold cc0_body
  refine wp_then c (part24_run m ρ K c p a o ?_)
  dsimp -zeta only
  extract_lets
  iterate 3 refine done_word m ρ K c _ _ (by exact below rfl) (by rfl) ?_
  exact wp_end c h

end Body

end Cert.Scan
-- ==== Proof.Data.lean ====
/- The kernel's data on each device: what it starts from, what it ends with, and the body's obligation. -/
module

public import proofs.«01_k».proof.Proof.Body
public import Idealize.ShloMosaic.Lib.Ring

@[expose] public section

noncomputable section

namespace Cert.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CellIx → ℕ)

/-! ## Closing a cell -/

/-! ## The landing buffer and its slots -/

section Slots
variable (c : Dev nD)

theorem slot_set (j : Fin 32) : ((slot j).view.set : Finset S32x1x1024.Idx) = (Rect.unit (s := S32x1x1024) ![j.val, 0, 0] S1x1x1024.size (slot_inb j)).set := by
  show (((Memref.whole cc0_scratch2).view.slice _).reshape S1x1024 _).set = _
  rw [View.set_reshape]
  exact View.set_slice_whole _ _

theorem mem_slot (j : Fin 32) (i : S32x1x1024.Idx) : i ∈ ((slot j).view.set : Finset S32x1x1024.Idx) ↔ i 0 = j := by
  rw [slot_set, Rect.mem_set_unit]
  constructor
  · intro h
    have h0 := h 0
    have e1 : (![j.val, 0, 0] : Fin 3 → ℕ) 0 = j.val := rfl
    have e2 : S1x1x1024.size 0 = 1 := rfl
    have h1 : j.val ≤ (i 0).val ∧ (i 0).val < j.val + 1 := h0
    exact Fin.ext (by omega)
  · rintro rfl a
    match a with
    | ⟨0, _⟩ => exact ⟨le_refl _, Nat.lt_succ_self _⟩
    | ⟨1, _⟩ => exact ⟨Nat.zero_le _, by have := (i 1).isLt; exact lt_of_lt_of_eq this rfl⟩
    | ⟨2, _⟩ => exact ⟨Nat.zero_le _, by have := (i 2).isLt; exact lt_of_lt_of_eq this rfl⟩

abbrev slotIx (j : Fin 32) : Finset S32x1x1024.Idx := (slot j).view.set

theorem slots_disj : ∀ j j', j ≠ j' → Disjoint (slotIx j) (slotIx j') := fun j j' h =>
  Finset.disjoint_left.mpr fun i hi hi' => h (((mem_slot j i).mp hi).symm.trans ((mem_slot j' i).mp hi'))
theorem slots_cover : Finset.univ.biUnion slotIx = Finset.univ :=
  Finset.eq_univ_iff_forall.mpr fun i => Finset.mem_biUnion.mpr ⟨i 0, Finset.mem_univ _, (mem_slot (i 0) i).mpr rfl⟩

/-- The landing buffer held whole is held slot by slot, -/
theorem slots_split (f : Buf (Elt F) ((c : Thread nD τ).loc cc0_scratch2)) :
    (((c : Thread nD τ).loc cc0_scratch2) ↦{fullShare} f : sProp 𝕄) ⊢ slots (F := F) c := by
  rw [Ring.pointsTo_blocks (ℓ := (c : Thread nD τ).loc cc0_scratch2) slotIx slots_disj slots_cover f]
  unfold slots
  refine bigSep_mono fun j _ => ?_
  unfold slotAny slotPts
  exact exists_intro (Φ := fun f => ((slot j).view.loc (c : Thread nD τ) ↦[(slot j).view.set]{fullShare} f : sProp 𝕄)) f

/-- and the other way round. -/
theorem slots_join (f₀ : Buf (Elt F) ((c : Thread nD τ).loc cc0_scratch2)) :
    (slots (F := F) c : sProp 𝕄) ⊢ iprop(∃ f : Buf (Elt F) ((c : Thread nD τ).loc cc0_scratch2), ((c : Thread nD τ).loc cc0_scratch2) ↦{fullShare} f) :=
  Ring.pointsTo_blocks_join_exists (ℓ := (c : Thread nD τ).loc cc0_scratch2) slotIx slots_disj slots_cover f₀

end Slots

/-! ## The data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

section Data
variable (c : Dev nD)

/-- The ghost state a device starts from. -/
def ghost : sProp 𝕄 := iprop(recs m ρ K ∗ gSig (F := F) c ∗ gBar (F := F) c ∗ gSend (F := F) c ∗ gTail (F := F) c)
def start : sProp 𝕄 := iprop(∃ K, ghost m ρ K c)

/-- The buffers the kernel works in, at any contents. -/
def scratch : sProp 𝕄 := iprop((∃ f, sPts (F := F) c f) ∗ (∃ f, pPts (F := F) c f)
  ∗ (∃ f : Buf (Elt F) ((c : Thread nD τ).loc cc0_scratch2), ((c : Thread nD τ).loc cc0_scratch2) ↦{fullShare} f) ∗ (∃ f, accPts (F := F) c f))

def Φ₀ : sProp 𝕄 := iprop(start m ρ c ∗ scratch (F := F) c)
/-- After the kernel: the buffers, and every semaphore at zero. -/
def Φ₁ : sProp 𝕄 := iprop(scratch (F := F) c ∗ semVal (barCell c) 0 ∗ (bigSep Finset.univ fun j => semVal (sendCell c j) 0)
  ∗ (bigSep Finset.univ fun i => semVal (recvCell c i) 0) ∗ semVal (ackCell c) 0)

end Data

/-- The kernel's data: the staged block of `x`, and the result block. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xv m ρ c
    | ⟨1, _⟩ => outv m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-! ## The end of the body -/

section End
variable (c : Dev nD)

/-- What the last wait leaves is what the kernel ends with. -/
theorem done_to_end : stDone m ρ K c (frDone m ρ c) 32
    ⊢ iprop(|={Set.univ}=> (Φ₁ (F := F) c ∗ OW c 0 ∗ xPts m ρ c ∗ oPts c (outv m ρ c))) := by
  unfold stDone frDone frEnd
  simp only [show leftA (F := F) m ρ c = fun j => iprop(pShare m ρ c j ∗ semVal (sendCell c j) 0) from rfl,
    show recvA (F := F) c = fun j => iprop(semVal (recvCell c j) 0 ∗ slotAny c j) from rfl, bigSep_sep']
  rw [← p_shares]
  iintro ⟨#HR, ⟨⟨Ho, Ha, ⟨Hrv, Hsl⟩, Hx, Hs, Hb⟩, ⟨Hp, Hsv⟩⟩, HO, Hat, -⟩
  imod (ack_close m ρ K c Set.univ (Set.mem_univ _)) $$ [Hat] with Hack
  · isplitr; · iexact HR
    iexact Hat
  imodintro
  ihave Hsl := (show bigSep Finset.univ (fun j => slotAny (F := F) c j) ⊢ _ from slots_join (F := F) c (fun _ => default)) $$ Hsl
  unfold Φ₁ scratch
  isplitl [Ha Hrv Hsl Hs Hb Hp Hsv Hack]
  · isplitl [Ha Hsl Hs Hp]
    · isplitl [Hs]; · iexists _; iexact Hs
      isplitl [Hp]; · iexists _; iexact Hp
      isplitl [Hsl]; · iexact Hsl
      iexists _; iexact Ha
    isplitl [Hb]; · iexact Hb
    isplitl [Hsv]; · iexact Hsv
    isplitl [Hrv]; · iexact Hrv
    iexact Hack
  isplitl [HO]; · iexact HO
  isplitl [Hx]; · iexact Hx
  iexact Ho

end End

/-! ## The obligation -/

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ (F := F) c ∗ (dats m ρ 0 c).owesAt () t₀.succ ∗ stg c cc0_stg0_0 (xv m ρ c) ∗ stg c cc0_stg1_0 (outv m ρ c))

theorem end_to_post (c : Dev nD) : iprop(Φ₁ (F := F) c ∗ OW c 0 ∗ xPts m ρ c ∗ oPts c (outv m ρ c)) ⊢ bodyPost m ρ c := by
  unfold bodyPost OW xPts oPts Dat.owesAt Pipeline.owesWithin
  rw [show (dats m ρ 0 c).owed t₀.succ = 0 from rfl]
  iintro ⟨Hf, ⟨%W, HO⟩, Hx, Ho⟩
  isplitl [Hf]; · iexact Hf
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iexact Ho

theorem sound_body (c : Dev nD) : bodyPre m ρ c ⊢ WP c
    (cc0_body xM (Memref.isWhole_whole _) oM (Memref.isWhole_whole _) sM (Memref.isWhole_whole _) pM (Memref.isWhole_whole _) qM (Memref.isWhole_whole _)
      aM (Memref.isWhole_whole _) cc0_scratch4 cc0_scratch5 cc0_scratch6) (fun _ => bodyPost m ρ c) := by
  unfold bodyPre Φ₀ start ghost scratch Dat.owesAt Pipeline.owesWithin
  rw [show (dats m ρ 0 c).owed t₀.castSucc = O₀ c from rfl]
  iintro ⟨⟨⟨%K, #HR, Hsig, Hbar, Hsend, Ht⟩, ⟨%s, Hs⟩, ⟨%p, Hp⟩, ⟨%q, Hq⟩, ⟨%a, Ha⟩⟩, ⟨%W, %hW, HO⟩, ⟨%d0, %g0, %hg0, Hx⟩, ⟨%d1, %o, %hg1, Ho⟩⟩
  have hx : g0 = xv m ρ c := by rw [hg0]; unfold Dat.before; rw [if_pos (fetch_0 t₀)]; rfl
  subst hx
  ihave Hq := (slots_split (F := F) c q) $$ Hq
  iapply ((to_row m ρ K c p a o s).trans (body_run m ρ K c p a o ((done_to_end m ρ K c).trans (BI.fupd_mono (end_to_post m ρ c)))))
  unfold frRow fr0 xPts oPts OW
  isplitl [Hx]; · iexact Hx
  isplitl [Hs]; · iexact Hs
  isplitl [Hp]; · iexact Hp
  isplitl [Ha]; · iexact Ha
  isplitl [Ho]; · iexact Ho
  isplitr; · iexact HR
  isplitl [HO]; · iexists W; iexact HO
  isplitl [Hq]; · iexact Hq
  isplitl [Hsig]; · iexact Hsig
  isplitl [Hbar]; · iexact Hbar
  isplitl [Hsend]; · iexact Hsend
  iexact Ht

set_option maxRecDepth 4000 in
/-- The body's obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  exact sound_body m ρ c

end Cert.Scan
-- ==== Proof.Launch.lean ====
/- The launch: the ghost state dealt to the devices, the credit of what is owed, and the run of the whole program. -/
module

public import proofs.«01_k».proof.Proof.Data
public import Idealize.ShloMosaic.Lib.Pipeline.CollectiveSegs

@[expose] public section

noncomputable section

namespace Cert.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CellIx → ℕ)

/-! ## Closing a cell -/

/-! ## Cells and rights -/

theorem ownSemFacts : Pipeline.OwnSemFacts cfg0.spec osem := by decide

theorem share_eq (c : Dev nD) (w : Fin cfg0.W) : (dats m ρ 0 c).share w = fullShare := by unfold Dat.share; split <;> rfl

/-- What a cell is used for, read off its index. -/
def useIx : CellIx → Use
  | .inl (.inl (.inl j)) => .send j
  | .inl (.inl (.inr i)) => .recv i
  | .inl (.inr _) => .ack
  | .inr _ => .bar

theorem use_csem : ∀ k : CellIx, useOf (csem k) = useIx k
  | .inl (.inl (.inl j)) => use_send j
  | .inl (.inl (.inr i)) => use_recv i
  | .inl (.inr _) => use_ack
  | .inr _ => use_bar

theorem useIx_injective : Function.Injective useIx := by
  rintro (((j | i) | a) | b) (((j' | i') | a') | b') h <;> simp_all [useIx]

theorem csem_injective : Function.Injective csem := fun k k' h =>
  useIx_injective (by rw [← use_csem, ← use_csem, h])

theorem kcell_injective : Function.Injective (kcell : Dev nD × CellIx → GSem nD τ sig) := by
  rintro ⟨c, k⟩ ⟨c', k'⟩ h
  have h1 : c = c' := congrArg (fun g : GSem nD τ sig => g.1.1) h
  have h2 : k = k' := csem_injective (congrArg Prod.snd h)
  rw [h1, h2]

def allCells : Finset (GSem nD τ sig) := Finset.univ.map ⟨kcell, kcell_injective⟩

/-- One right for each cell and each device that may pay into it. A send cell's and a receive cell's only right is that of
    the device the cell stands for. -/
abbrev TokIx := ((Fin 32 ⊕ Fin 32) ⊕ Fin 32) ⊕ Fin 32
def tokCell : TokIx → CellIx
  | .inl (.inl (.inl j)) => kSend j
  | .inl (.inl (.inr i)) => kRecv i
  | .inl (.inr _) => kAck
  | .inr _ => kBar
def tokDev : TokIx → Dev nD
  | .inl (.inl (.inl j)) => j
  | .inl (.inl (.inr i)) => i
  | .inl (.inr d) => d
  | .inr d => d
def tokOf (x : Dev nD × TokIx) : GSem nD τ sig × ℕ × Dev nD := (kcell (x.1, tokCell x.2), 0, tokDev x.2)

theorem tok_injective {k k' : TokIx} (h : tokCell k = tokCell k') (h' : tokDev k = tokDev k') : k = k' := by
  rcases k with ((j | i) | a) | b <;> rcases k' with ((j' | i') | a') | b' <;> simp_all [tokCell, tokDev]

theorem tokOf_injective : Function.Injective tokOf := by
  rintro ⟨c, k⟩ ⟨c', k'⟩ h
  have h1 := kcell_injective (congrArg Prod.fst h)
  have h2 : tokDev k = tokDev k' := congrArg (fun x : GSem nD τ sig × ℕ × Dev nD => x.2.2) h
  have h3 : tokCell k = tokCell k' := congrArg Prod.snd h1
  rw [show c = c' from congrArg Prod.fst h1, tok_injective h3 h2]

def allToks : Finset (GSem nD τ sig × ℕ × Dev nD) := Finset.univ.map ⟨tokOf, tokOf_injective⟩

def u₀ : UU :=
  (initOf (Pipeline.cells cfgs cellOf_inj) (Pipeline.launchToks cfgs cellOf_inj), initOf allCells allToks)

theorem bigSep_cells (Φ : CellIx → sProp 𝕄) : bigSep Finset.univ Φ
    = iprop((((bigSep Finset.univ fun j => Φ (kSend j)) ∗ (bigSep Finset.univ fun i => Φ (kRecv i))) ∗ Φ kAck) ∗ Φ kBar) := by
  rw [BI.bigSep_univ_sum, BI.bigSep_univ_sum, BI.bigSep_univ_sum, bigSep_univ_of_subsingleton (), bigSep_univ_of_subsingleton ()]; rfl
theorem bigSep_toks (Φ : TokIx → sProp 𝕄) : bigSep Finset.univ Φ
    = iprop((((bigSep Finset.univ fun j => Φ (.inl (.inl (.inl j)))) ∗ (bigSep Finset.univ fun i => Φ (.inl (.inl (.inr i)))))
      ∗ (bigSep Finset.univ fun d => Φ (.inl (.inr d)))) ∗ (bigSep Finset.univ fun d => Φ (.inr d))) := by
  rw [BI.bigSep_univ_sum, BI.bigSep_univ_sum, BI.bigSep_univ_sum]; rfl

section PerDevice
variable (c : Dev nD)

/-- The rights to pay into device `c`'s cells. -/
def toks : sProp 𝕄 :=
  iprop((((bigSep Finset.univ fun j : Fin 32 => dutyTok ER (sendCell c j) 0 j) ∗ (bigSep Finset.univ fun i : Fin 32 => dutyTok ER (recvCell c i) 0 i))
    ∗ (bigSep Finset.univ fun d : Fin 32 => dutyTok ER (ackCell c) 0 d)) ∗ (bigSep Finset.univ fun d : Fin 32 => dutyTok ER (barCell c) 0 d))

/-- The rights device `c` pays with. -/
def payToks : sProp 𝕄 :=
  iprop((((bigSep Finset.univ fun j : Fin 32 => dutyTok ER (sendCell c j) 0 j) ∗ (bigSep Finset.univ fun j : Fin 32 => dutyTok ER (recvCell j c) 0 c))
    ∗ (bigSep Finset.univ fun j : Fin 32 => dutyTok ER (ackCell j) 0 c)) ∗ (bigSep Finset.univ fun j : Fin 32 => dutyTok ER (barCell j) 0 c))

/-- The positions on device `c`'s cells. -/
def poss : sProp 𝕄 := bigSep Finset.univ fun k : CellIx => atPos ER (kcell (c, k)) 0 ∅ 0

/-- What the launch deals device `c`. -/
def G : sProp 𝕄 :=
  iprop((bigSep Finset.univ fun k : CellIx => roundState ER (sched m ρ) (kcell (c, k)) 0)
    ∗ (poss (F := F) c ∗ bigSep Finset.univ fun k : CellIx => reached ER (kcell (c, k)) 0) ∗ toks (F := F) c)

end PerDevice

/-- Every cell's invariant and its round 0. -/
def facts₀ : sProp 𝕄 :=
  iprop((bigSep Finset.univ fun x : Dev nD × CellIx => cellInv ER (sched m ρ) (K x) (kcell x))
    ∗ bigSep Finset.univ fun x : Dev nD × CellIx => reached ER (kcell x) 0)

instance facts₀_persistent : BI.Persistent (facts₀ (F := F) m ρ K) := by unfold facts₀; infer_instance

/-- What device `c` has of it once the invariants stand. -/
def G' (c : Dev nD) : sProp 𝕄 := iprop((∃ K, facts₀ m ρ K) ∗ poss (F := F) c ∗ payToks (F := F) c)

/-- Over all pairs of devices, the two orders are the same. -/
theorem bigSep_swap (Φ : Fin 32 → Fin 32 → sProp 𝕄) :
    (bigSep Finset.univ fun a => bigSep Finset.univ fun b => Φ a b) = bigSep Finset.univ fun b => bigSep Finset.univ fun a => Φ a b := by
  have h1 := bigSep_univ_prod (fun x : Fin 32 × Fin 32 => Φ x.1 x.2)
  have h2 := bigSep_univ_prod (fun x : Fin 32 × Fin 32 => Φ x.2 x.1)
  have h3 := bigSep_univ_equiv (Equiv.prodComm (Fin 32) (Fin 32)) (fun x : Fin 32 × Fin 32 => Φ x.1 x.2)
  exact h1.symm.trans (h3.trans h2)

/-- The rights, dealt from the devices whose cells they are of to the devices that pay with them. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep',
    bigSep_swap (fun c i => (dutyTok ER (recvCell c i) 0 i : sProp 𝕄)),
    bigSep_swap (fun c i => (dutyTok ER (ackCell c) 0 i : sProp 𝕄)),
    bigSep_swap (fun c i => (dutyTok ER (barCell c) 0 i : sProp 𝕄))]

theorem fund : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : CellIx => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_toks]; rfl
  iintro HX
  imod (Rounds.fund ER (sched m ρ) allCells allToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G poss; simp only [bigSep_sep']
  isplitl [Hst']; · iexact Hst'
  isplitl [Hat' Hr']
  · isplitl [Hat'] <;> iassumption
  iexact Htok'

/-! ## The semaphores -/

section Sems
variable (c : Dev nD)

theorem ownSems0_eq : (Pipeline.ownSems0 (Ix := Unit) (Name := ℕ) (U := UU) (Lvl := ℕ) (Val := Elt F) (τ := τ) osem c : sProp 𝕄)
    = iprop(((bigSep Finset.univ fun j => semVal (sendCell c j) 0) ∗ (bigSep Finset.univ fun i => semVal (recvCell c i) 0)) ∗ semVal (ackCell c) 0) := by
  unfold Pipeline.ownSems0
  rw [BI.bigSep_univ_sum, BI.bigSep_univ_sum, bigSep_univ_of_subsingleton ()]; rfl
theorem unscopedSems0_eq : (unscopedSems0 c : sProp 𝕄) = semVal (barCell c) 0 := by
  unfold unscopedSems0; rw [bigSep_eq_bigSepL_of_eq [SemLoc.reg barS] (by decide) (by decide)]; rfl

theorem sems0_eq :
    iprop(Pipeline.ownSems0 (Ix := Unit) (Name := ℕ) (U := UU) (Lvl := ℕ) (Val := Elt F) (τ := τ) osem c ∗ unscopedSems0 c)
      ⊢ (bigSep Finset.univ fun k : CellIx => semVal (kcell (c, k)) 0 : sProp 𝕄) := by
  rw [ownSems0_eq, unscopedSems0_eq, bigSep_cells]

theorem core_alloc :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (poss (F := F) c ∗ bigSep Finset.univ fun k => reached ER (kcell (c, k)) 0) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun k : CellIx => semVal (kcell (c, k)) 0) ∗ bigSep Finset.univ fun k : CellIx => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

end Sems

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem G'_intro (c : Dev nD) : iprop(facts₀ (F := F) m ρ K ∗ poss (F := F) c ∗ payToks (F := F) c) ⊢ G' m ρ c := by
  unfold G'
  iintro ⟨HF, Hr⟩
  isplitl [HF]
  · iexists K; iexact HF
  iexact Hr

theorem regroup :
    (bigSep Finset.univ fun c : Dev nD => iprop((bigSep Finset.univ fun k => iprop(∃ κ : ℕ, cellInv ER (sched m ρ) κ (kcell (c, k))))
          ∗ (poss (F := F) c ∗ bigSep Finset.univ fun k => reached ER (kcell (c, k)) 0) ∗ toks (F := F) c) : sProp 𝕄)
      ⊢ bigSep Finset.univ (G' m ρ) := by
  rw [bigSep_sep', bigSep_sep', bigSep_sep', ← bigSep_univ_prod (fun x : Dev nD × CellIx => iprop(∃ κ : ℕ, cellInv ER (sched m ρ) κ (kcell x))),
    ← bigSep_univ_prod (fun x : Dev nD × CellIx => (reached ER (kcell x) 0 : sProp 𝕄))]
  iintro ⟨HI, ⟨Hat, #HR⟩, Htok⟩
  ihave HK := (BI.bigSep_exists_pi Finset.univ (fun (x : Dev nD × CellIx) (κ : ℕ) => (cellInv ER (sched m ρ) κ (kcell x) : sProp 𝕄))) $$ HI
  icases HK with ⟨%K, #HI⟩
  ihave Htk := (toks_around (F := F)) $$ Htok
  iapply (bigSep_with_persistent (R := facts₀ m ρ K) fun c _ => G'_intro m ρ K c)
  isplitr
  · unfold facts₀; isplitl; · iexact HI
    iexact HR
  · iapply (Entails.of_eq (bigSep_sep' Finset.univ (fun c : Dev nD => (poss (F := F) c : sProp 𝕄)) payToks).symm)
    isplitl [Hat]; · iexact Hat
    iexact Htk

/-- Every device's semaphores, turned into the cells' invariants at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

section Credit

theorem cell_inj {c d : Dev nD} {s s' : SemLoc sig} (h : ((c : Thread nD τ), s) = ((d : Thread nD τ), s')) : c = d ∧ useOf s = useOf s' :=
  ⟨congrArg (fun g : GSem nD τ sig => g.1.1) h, congrArg (fun g : GSem nD τ sig => useOf g.2) h⟩

theorem rest_apply (f : Fin 32 → Tl) (g : GSem nD τ sig) : rest f 0 g () = ∑ j, f j g () := by
  rw [rest_zero, Finset.sum_apply, Finsupp.finsetSum_apply]

theorem tally_other {c d : Dev nD} {s s' : SemLoc sig} (h : useOf s' ≠ useOf s) (n : ℕ) :
    (tallyAt ((d : Thread nD τ), s) () n : Tl) ((c : Thread nD τ), s') () = 0 := by
  rw [tallyAt_apply, if_neg fun h' => h (cell_inj h'.1).2]
theorem tally_same (c d : Dev nD) (s : SemLoc sig) (n : ℕ) :
    (tallyAt ((d : Thread nD τ), s) () n : Tl) ((c : Thread nD τ), s) () = if d = c then n else 0 := by
  rw [tallyAt_apply]
  exact if_congr ⟨fun h => (cell_inj h.1).1.symm, fun h => ⟨by rw [h], rfl⟩⟩ rfl rfl

theorem bar_bar (d j c : Dev nD) : barO d j (barCell c) () = if j = c then (if d ≠ c then 1 else 0) else 0 := by
  unfold barO
  by_cases hd : d = j
  · subst hd; rw [if_neg (not_not.mpr rfl)]; by_cases h : d = c
    · rw [if_pos h, if_neg (not_not.mpr h)]; rfl
    · rw [if_neg h]; rfl
  · rw [if_pos hd, tally_same]
    by_cases h : j = c
    · subst h; rw [if_pos rfl, if_pos rfl, if_pos hd]
    · rw [if_neg h, if_neg h]
theorem bar_recv (d j c : Dev nD) (i : Fin 32) : barO d j (recvCell c i) () = 0 := by
  unfold barO; split
  · exact tally_other (by rw [use_recv, use_bar]; exact fun h => by cases h) 1
  · rfl
theorem bar_ack (d j c : Dev nD) : barO d j (ackCell c) () = 0 := by
  unfold barO; split
  · exact tally_other (by rw [use_ack, use_bar]; exact fun h => by cases h) 1
  · rfl
theorem recv_bar (d j c : Dev nD) : recvO d j (barCell c) () = 0 := by
  unfold recvO; split
  · exact tally_other (by rw [use_recv, use_bar]; exact fun h => by cases h) N
  · rfl
theorem recv_ack (d j c : Dev nD) : recvO d j (ackCell c) () = 0 := by
  unfold recvO; split
  · exact tally_other (by rw [use_recv, use_ack]; exact fun h => by cases h) N
  · rfl
theorem recv_recv (d j c : Dev nD) (i : Fin 32) : recvO d j (recvCell c i) () = if j = c then (if d = i then (if i < c then N else 0) else 0) else 0 := by
  unfold recvO
  by_cases hd : d = i
  · subst hd
    by_cases h : j = c
    · subst h; rw [if_pos rfl, if_pos rfl]; split
      · rw [tally_same, if_pos rfl]
      · rfl
    · rw [if_neg h]; split
      · rw [tally_same, if_neg h]
      · rfl
  · rw [if_neg hd, ite_self]; split
    · exact tally_other (by rw [use_recv, use_recv]; exact fun h => hd (by injection h with h; exact h.symm)) N
    · rfl
theorem ack_bar (d j c : Dev nD) : ackO d j (barCell c) () = 0 := by
  unfold ackO; split
  · exact tally_other (by rw [use_ack, use_bar]; exact fun h => by cases h) 1
  · rfl
theorem ack_recv (d j c : Dev nD) (i : Fin 32) : ackO d j (recvCell c i) () = 0 := by
  unfold ackO; split
  · exact tally_other (by rw [use_recv, use_ack]; exact fun h => by cases h) 1
  · rfl
theorem ack_ack (d j c : Dev nD) : ackO d j (ackCell c) () = if j = c then (if c < d then 1 else 0) else 0 := by
  unfold ackO
  by_cases h : j = c
  · subst h; rw [if_pos rfl]; split
    · rw [tally_same, if_pos rfl]
    · rfl
  · rw [if_neg h]; split
    · rw [tally_same, if_neg h]
    · rfl

theorem owes_at (d : Dev nD) (g : GSem nD τ sig) :
    O₀ d g () = (∑ j, barO d j g ()) + ((∑ j, recvO d j g ()) + ∑ j, ackO d j g ()) := by
  unfold O₀
  rw [Pi.add_apply, Finsupp.add_apply, Pi.add_apply, Finsupp.add_apply, rest_apply, rest_apply, rest_apply]

theorem owed_bar (d c : Dev nD) : O₀ d (barCell c) () = if d ≠ c then 1 else 0 := by
  rw [owes_at, Finset.sum_congr rfl fun j _ => bar_bar d j c, Finset.sum_congr rfl fun j _ => recv_bar d j c, Finset.sum_congr rfl fun j _ => ack_bar d j c,
    Finset.sum_const_zero, Finset.sum_ite_eq' Finset.univ c, if_pos (Finset.mem_univ _)]
  rfl
theorem owed_recv (d c : Dev nD) (i : Fin 32) : O₀ d (recvCell c i) () = if d = i then (if i < c then N else 0) else 0 := by
  rw [owes_at, Finset.sum_congr rfl fun j _ => bar_recv d j c i, Finset.sum_congr rfl fun j _ => recv_recv d j c i, Finset.sum_congr rfl fun j _ => ack_recv d j c i,
    Finset.sum_const_zero, Finset.sum_ite_eq' Finset.univ c, if_pos (Finset.mem_univ _), Nat.add_zero, Nat.zero_add]
theorem owed_ack (d c : Dev nD) : O₀ d (ackCell c) () = if c < d then 1 else 0 := by
  rw [owes_at, Finset.sum_congr rfl fun j _ => bar_ack d j c, Finset.sum_congr rfl fun j _ => recv_ack d j c, Finset.sum_congr rfl fun j _ => ack_ack d j c,
    Finset.sum_const_zero, Finset.sum_ite_eq' Finset.univ c, if_pos (Finset.mem_univ _), Nat.zero_add, Nat.zero_add]

theorem others_card (c : Dev nD) : (∑ d : Dev nD, if d ≠ c then 1 else 0) = 31 := by revert c; decide +kernel

/-- The credit at a cell, from what all devices owe there. -/
theorem launch_at (g : GSem nD τ sig) (n : ℕ) (h : ∑ d : Dev nD, O₀ d g () = n) :
    tallyOn g (launchCredit (Pipeline.owing O₀) 0 g) = (tallyAt g () n : Tl) := by
  unfold tallyAt; refine congrArg _ (Finsupp.ext fun u => ?_); cases u
  rw [Pipeline.launchCredit_owing, Finsupp.single_eq_same, h]

theorem launch_bar (c : Dev nD) : tallyOn (barCell c) (launchCredit (Pipeline.owing O₀) 0 (barCell c)) = (tallyAt (barCell c) () 31 : Tl) :=
  launch_at _ _ (by rw [Finset.sum_congr rfl fun d _ => owed_bar d c]; exact others_card c)
theorem launch_recv (c : Dev nD) (i : Fin 32) :
    tallyOn (recvCell c i) (launchCredit (Pipeline.owing O₀) 0 (recvCell c i)) = (tallyAt (recvCell c i) () (if i < c then N else 0) : Tl) :=
  launch_at _ _ (by rw [Finset.sum_congr rfl fun d _ => owed_recv d c i, Finset.sum_ite_eq' Finset.univ i, if_pos (Finset.mem_univ _)])
theorem launch_ack (c : Dev nD) :
    tallyOn (ackCell c) (launchCredit (Pipeline.owing O₀) 0 (ackCell c)) = ∑ d : Dev nD, (if c < d then tallyAt (ackCell c) () 1 else 0 : Tl) := by
  rw [launch_at _ _ (Finset.sum_congr rfl fun d _ => owed_ack d c)]
  funext g
  refine Finsupp.ext fun u => ?_
  cases u
  rw [Finset.sum_apply, Finsupp.finsetSum_apply, tallyAt_apply]
  have hd (d : Dev nD) : (if c < d then tallyAt (ackCell c) () 1 else 0 : Tl) g () = if g = ackCell c then (if c < d then 1 else 0) else 0 := by
    by_cases h : c < d
    · rw [if_pos h, tallyAt_apply, if_pos h]; exact if_congr (and_iff_left rfl) rfl rfl
    · rw [if_neg h, if_neg h, ite_self]; rfl
  rw [Finset.sum_congr rfl fun d _ => hd d]
  by_cases h : g = ackCell c
  · rw [if_pos ⟨h, rfl⟩, Finset.sum_congr rfl fun d _ => if_pos h]
  · rw [if_neg fun h' => h h'.1, Finset.sum_congr rfl fun d _ => if_neg h, Finset.sum_const_zero]

variable (c : Dev nD)

/-- The credit device `c` is dealt: 31 units on its barrier cell, a slot's bytes from every earlier device, a unit from
    every later one. -/
theorem creds : (Pipeline.launchCred O₀ c : sProp 𝕄)
    ⊢ iprop(cred (tallyAt (barCell c) () 31) ∗ (bigSep Finset.univ fun j : Fin 32 => if j < c then cred (tallyAt (recvCell c j) () N) else iprop(emp))
      ∗ bigSep Finset.univ (ackC (F := F) c)) := by
  have hc : (Pipeline.launchCred O₀ c : sProp 𝕄) ⊢ bigSep Finset.univ fun k : CellIx =>
      cred (tallyOn (kcell (c, k)) (launchCredit (Pipeline.owing O₀) 0 (kcell (c, k)))) := by
    unfold Pipeline.launchCred
    have hs (Φ : SemLoc sig → sProp 𝕄) : bigSep Finset.univ Φ ⊢ bigSep Finset.univ fun k : CellIx => Φ (csem k) := by
      have h1 : bigSep Finset.univ Φ ⊢ bigSep (Finset.univ.map ⟨csem, csem_injective⟩) Φ := bigSep_subset (Finset.subset_univ _)
      exact h1.trans (Entails.of_eq (bigSep_map ⟨csem, csem_injective⟩))
    exact hs _
  refine hc.trans ?_
  rw [bigSep_cells]
  have hr : (bigSep Finset.univ fun i : Fin 32 => (cred (tallyOn (recvCell c i) (launchCredit (Pipeline.owing O₀) 0 (recvCell c i))) : sProp 𝕄))
      = bigSep Finset.univ fun j : Fin 32 => if j < c then cred (tallyAt (recvCell c j) () N) else iprop(emp) :=
    bigSep_congr fun i _ => by
      rw [launch_recv]
      by_cases h : i < c
      · rw [if_pos h, if_pos h]
      · rw [if_neg h, if_neg h, tallyAt_zero, cred_zero]
  have ha : (cred (tallyOn (ackCell c) (launchCredit (Pipeline.owing O₀) 0 (ackCell c))) : sProp 𝕄) = bigSep Finset.univ (ackC (F := F) c) := by
    rw [launch_ack, Pipeline.cred_finsetSum]
    refine bigSep_congr fun d _ => ?_
    unfold ackC
    by_cases h : c < d
    · rw [if_pos h, if_pos h]
    · rw [if_neg h, if_neg h, cred_zero]
  have hb : (cred (tallyOn (barCell c) (launchCredit (Pipeline.owing O₀) 0 (barCell c))) : sProp 𝕄) = cred (tallyAt (barCell c) () 31) := by
    rw [launch_bar]
  rw [← hr, ← ha, ← hb]
  iintro ⟨⟨⟨-, H1⟩, H2⟩, H3⟩
  isplitl [H3]; · iexact H3
  isplitl [H1]; · iexact H1
  iexact H2

/-- What a device starts from, put together. -/
theorem start_of : iprop(levAts L lv ∗ Pipeline.launchCred O₀ c ∗ G' m ρ c) ⊢ start m ρ c := by
  unfold G' poss payToks start ghost gSig gBar gSend gTail gRecv gLeft gAck gDone facts₀ recs ackPos ackB
  rw [bigSep_cells]
  simp only [bigSep_sep']
  iintro ⟨Hlev, Hcr, ⟨%K, HI, HR⟩, ⟨⟨⟨Hps, Hpr⟩, Hpa⟩, Hpb⟩, ⟨⟨Hts, Htr⟩, Hta⟩, Htb⟩
  ihave Hc := (creds (F := F) c) $$ Hcr
  icases Hc with ⟨Hcb, Hcv, Hca⟩
  iexists K
  isplitl [HI HR Hlev]
  · isplitl [HI]; · iexact HI
    isplitl [HR]; · iexact HR
    iexact Hlev
  isplitl [Htb]; · iexact Htb
  isplitl [Hcb Hpb]
  · isplitl [Hcb]; · iexact Hcb
    iexact Hpb
  isplitl [Hts Htr]
  · isplitl [Hts]; · iexact Hts
    iexact Htr
  isplitl [Hcv Hpr]
  · isplitl [Hcv]; · iexact Hcv
    iexact Hpr
  isplitl [Hps]; · iexact Hps
  isplitl [Hta]; · iexact Hta
  isplitl [Hpa]
  · iexists (∅ : Finset (Dev nD))
    isplitr
    · ipureintro
      refine ⟨Finset.empty_subset _, ?_⟩
      rw [Finset.sdiff_empty, ack_card, Nat.zero_sub, Nat.zero_add]
    rw [Nat.zero_sub]
    iexact Hpa
  iexact Hca

end Credit

/-! ## The run -/

section Run

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hs := (start_of m ρ c) $$ [Hlev Hcr HG]
  · isplitl [Hlev]; · iexact Hlev
    isplitl [Hcr]; · iexact Hcr
    iexact HG
  imodintro
  isplitl
  · iexact Hs
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq, ownSems0_eq, unscopedSems0_eq]
  unfold Φ₁ scratch
  iintro ⟨Hr, Hb, Hs, Hv, Ha⟩
  isplitl [Hb]; · iexact Hb
  isplitl [Hs Hv Ha]
  · isplitl [Hs Hv]
    · isplitl [Hs]; · iexact Hs
      iexact Hv
    iexact Ha
  iexact Hr

/-- The pipeline's own waits come before everything else a device owes. -/
theorem mayWait_stage (c : Dev nD) (q : DmaSem sig) (hq : useOf (.dma q) = .other) (O : Tl) (hO : O = O₀ c ∨ O = 0) :
    (levAts L lv : sProp 𝕄) ⊢ MayWait (c : Thread nD τ) (.dma q) () O := by
  refine mayWait_of_above c (.dma q) O ?_
  have h0 : lv ((c : Thread nD τ), SemLoc.dma q) () = 0 := by unfold lv; rw [hq]
  rw [h0]
  rcases hO with rfl | rfl
  · exact above_add (above_bar (by decide) c 0) (above_add (above_recv (by decide) c 0) (above_ack (by decide) c 0))
  · exact above_zero 0

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What the windows' arrays hold after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any float values and from any memory with zero counters, every weakly fair execution of the program on the 32
    devices ends, with each device's arrays at the stated contents and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The `x` array holds after the run what it held before. -/
theorem finalA_x (c : Dev nD) : finalA m ρ c (0 : Fin 2) = (s₀ m ρ).mem (win0_0.arr.view.loc (c : Thread nD τ)) :=
  (dats (F := F) m ρ 0 c).arrAt_in (0 : Fin 2) rfl _

end Run

end Cert.Scan
-- ==== Proof.Value.lean ====
/- The values, over the extended reals: what each device returns is its rows of the running sums of the whole array. -/
module

public import proofs.«01_k».proof.Proof.Protocol
public import Idealize.ShloMosaic.Lib.Pointwise
public import Idealize.ShloMosaic.Lib.MatmulPlain
public import Idealize.ShloMosaic.Lib.WordCmp
public import Idealize.ShloMosaic.PureOps.Ideal.Laws

@[expose] public section

noncomputable section

namespace Cert.Scan

open Cert.KernelIdeal Cert.KernelIdeal.Gen
open Idealize.ShloMosaic Idealize.ShloMosaic.TcCoe
open scoped BigOperators

/-! ## Sums -/

/-- Sums over `n` consecutive runs of `w` indices add up to the sum over all `w n` indices. -/
theorem sum_blocks {M : Type} [AddCommMonoid M] (g : ℕ → M) (w n : ℕ) :
    (∑ b ∈ Finset.range n, ∑ k ∈ Finset.range w, g (w * b + k)) = ∑ i ∈ Finset.range (w * n), g i := by
  induction n with
  | zero => simp
  | succ n ih => rw [Finset.sum_range_succ, ih, Nat.mul_succ, Finset.sum_range_add]

/-- A sum weighted by one up to `a` and by zero after it stops at `a`; over the extended reals zero times anything is zero. -/
theorem sum_tril (n : ℕ) (a : ℕ) (h : a < n) (f : ℕ → EReal) :
    (∑ k ∈ Finset.range n, (if k ≤ a then (1 : EReal) else 0) * f k) = ∑ k ∈ Finset.range (a + 1), f k := by
  simp only [ite_mul, one_mul, zero_mul]
  rw [← Finset.sum_filter]
  refine Finset.sum_congr (Finset.ext fun k => ?_) fun _ _ => rfl
  simp only [Finset.mem_filter, Finset.mem_range]
  omega

/-- Adding the terms one after the other to `z` is `z` plus their sum. -/
theorem foldl_window {M : Type} [AddCommMonoid M] (t : ℕ → M) (n : ℕ) (z : M) (step : M → Fin n → M)
    (h : ∀ r k, step r k = r + t k.val) :
    (List.finRange n).foldl step z = z + ∑ k ∈ Finset.range n, t k := by
  have e : step = fun r k => r + t k.val := funext fun r => funext fun k => h r k
  rw [e, ← Fin.sum_univ_eq_sum_range]
  rw [← List.sum_ofFn, List.ofFn_eq_map]
  generalize List.finRange n = l
  induction l generalizing z with
  | nil => simp
  | cons a l ih => simp only [List.foldl_cons, List.map_cons, List.sum_cons]; rw [ih, add_assoc]

/-- A window whose first `p - i` positions are padding sums the first `i + 1` terms. -/
theorem sum_shift {M : Type} [AddCommMonoid M] (f : ℕ → M) (p i : ℕ) (hi : i ≤ p) :
    (∑ k ∈ Finset.range (p + 1), if p ≤ i + k then f (i + k - p) else 0) = ∑ k ∈ Finset.range (i + 1), f k := by
  have hp : p + 1 = (p - i) + (i + 1) := by omega
  rw [hp, Finset.sum_range_add, Finset.sum_eq_zero, zero_add]
  · refine Finset.sum_congr rfl fun k _ => ?_
    rw [if_pos (by omega)]
    congr 1; omega
  · intro k hk
    rw [Finset.mem_range] at hk
    exact if_neg (by omega)

/-! ## The kernel's operations, element by element -/

/-- The index of a column of a row, by its two coordinates. -/
theorem ixr_eq (b : Fin 1024) : ixr b = ix2 (0 : Fin 1) b := by
  funext k; match k with | ⟨0, _⟩ => rfl | ⟨1, _⟩ => rfl
/-- The index of an element of a block of 256 rows, by its two coordinates. -/
theorem ixb_eq (a : Fin 256) (b : Fin 1024) : ixb a b = ix2 a b := by
  funext k; match k with | ⟨0, _⟩ => rfl | ⟨1, _⟩ => rfl

/-- A row sum is, in each column, the sum of the 256 rows. -/
theorem pay1_apply (v : Vec Ideal S256x1024 .f32) (j : Fin 1024) :
    k0_pay1 v (ix2 (0 : Fin 1) j) = ∑ k : Fin 256, v (ix2 k j) := by
  pointwise [k0_pay1]

/-- The sum of the eight row sums, in each column. -/
theorem pay9_apply (v : Vec Ideal S8x1024 .f32) (j : Fin 1024) :
    k0_pay9 v (ix2 (0 : Fin 1) j) = ∑ k : Fin 8, v (ix2 k j) := by
  pointwise [k0_pay9]

/-- The accumulator starts at zero. -/
theorem pay11_apply (j : Fin 1024) : (k0_pay11 (F := Ideal)) (ix2 (0 : Fin 1) j) = 0 := by
  pointwise [k0_pay11]

/-- The prefix row starts at zero. -/
theorem pay13_apply (j : Fin 1024) : (k0_pay13 (F := Ideal)) (ix2 (0 : Fin 1) j) = 0 := by
  pointwise [k0_pay13]

/-- One step of the prefix row adds a row sum, column by column. -/
theorem pay15_apply (a b : Vec Ideal S1x1024 .f32) (j : Fin 1024) :
    k0_pay15 a b (ix2 (0 : Fin 1) j) = a (ix2 (0 : Fin 1) j) + b (ix2 (0 : Fin 1) j) := by
  pointwise [k0_pay15]

/-- One step of the accumulator adds a landed sum, column by column. -/
theorem accAdd_apply (a w : Vec Ideal S1x1024 .f32) (j : Fin 1024) :
    accAdd a w (ix2 (0 : Fin 1) j) = a (ix2 (0 : Fin 1) j) + w (ix2 (0 : Fin 1) j) := by
  pointwise [accAdd, k0_pay28]

/-- The last addition puts the accumulated row on every row. -/
theorem pay60_apply (v : Vec Ideal S2048x1024 .f32) (w : Vec Ideal S1x1024 .f32) (i : Fin 2048) (j : Fin 1024) :
    k0_pay60 v w (ix2 i j) = v (ix2 i j) + w (ix2 (0 : Fin 1) j) := by
  pointwise [k0_pay60]

/-- The triangle holds one on and below the diagonal, zero above. -/
theorem pay12_apply (a b : Fin 256) : (k0_pay12 (F := Ideal)) (ix2 a b) = if b ≤ a then (1 : EReal) else 0 := by
  pointwise [k0_pay12]
  rw [WordCmp.cmpi_sge_ofNat (by omega) (by omega)]
  show (((BitVec.setWidth 32 (BitVec.ofBool (decide (b.val ≤ a.val)))).toInt : ℝ) : EReal) = _
  by_cases h : b ≤ a
  · rw [if_pos h, decide_eq_true (Fin.le_def.mp h)]; simp
  · rw [if_neg h, decide_eq_false (fun e => h (Fin.le_def.mpr e))]; simp

/-- Row `k` of block `b` is row `256 b + k` of the whole. -/
theorem blk_apply (v : Vec Ideal S2048x1024 .f32) (b : Fin 8) (k : Fin 256) (j : Fin 1024) :
    blk v b (ix2 k j) = v (ix2 (⟨256 * b.val + k.val, by omega⟩ : Fin 2048) j) := by
  refine congrArg v (funext fun a => Fin.ext ?_)
  match a with
  | ⟨0, _⟩ => show 256 * b.val + 1 * k.val = 256 * b.val + k.val; omega
  | ⟨1, _⟩ => show 0 + 1 * j.val = j.val; omega

/-- The `b`th row of eight, column by column. -/
theorem rowOf_apply (v : Vec Ideal S8x1024 .f32) (b : Fin 8) (j : Fin 1024) :
    rowOf v b (ix2 (0 : Fin 1) j) = v (ix2 b j) := by
  refine congrArg v (funext fun a => Fin.ext ?_)
  match a with
  | ⟨0, _⟩ => show b.val + 1 * 0 = b.val; omega
  | ⟨1, _⟩ => show 0 + 1 * j.val = j.val; omega

/-- One block of the result: the triangle times the block, plus the same row on every row. -/
theorem blockOut_apply (P : Vec Ideal S1x1024 .f32) (v : Vec Ideal S256x1024 .f32) (a : Fin 256) (j : Fin 1024) :
    blockOut P v (ix2 a j) = (∑ k : Fin 256, (k0_pay12 (F := Ideal)) (ix2 a k) * v (ix2 k j)) + P (ix2 (0 : Fin 1) j) := by
  pointwise [blockOut]

/-! ## The device's sums -/

/-- Column `j` of the whole array, by row; zero past the last row. -/
def colAt (X : Vec Ideal ⟨2, ![65536, 1024]⟩ .f32) (j : Fin 1024) (n : ℕ) : EReal := if h : n < 65536 then X (ix2 (⟨n, h⟩ : Fin 65536) j) else 0

section Device
variable (m : (ℓ : Loc nD τ sig) → Buf (Elt Ideal) ℓ) (ρ : Dev nD → PrngReg)
variable (X : Vec Ideal ⟨2, ![65536, 1024]⟩ .f32)

/-- What the launch gives: device `c` holds the rows from `2048 c` on. -/
def Holds : Prop := ∀ (c : Dev nD) (i : Fin 2048) (j : Fin 1024), xv m ρ c (ix2 i j) = colAt X j (2048 * c.val + i.val)

variable {m ρ X} (hX : Holds m ρ X)
include hX

/-- Row sum `b` of device `c` sums the 256 rows from `2048 c + 256 b` on. -/
theorem sv_apply (c : Dev nD) (b : Fin 8) (j : Fin 1024) :
    sv m ρ c (ix2 b j) = ∑ k ∈ Finset.range 256, colAt X j (2048 * c.val + (256 * b.val + k)) := by
  show k0_pay1 (blk (xv m ρ c) b) (ixr j) = _
  rw [ixr_eq, pay1_apply, ← Fin.sum_univ_eq_sum_range (fun k => colAt X j (2048 * c.val + (256 * b.val + k))) 256]
  exact Finset.sum_congr rfl fun k _ => by rw [blk_apply, hX]

/-- The sum device `c` sends out is over its 2048 rows. -/
theorem pv_apply (c : Dev nD) (j : Fin 1024) :
    pv m ρ c (ix2 (0 : Fin 1) j) = ∑ k ∈ Finset.range 2048, colAt X j (2048 * c.val + k) := by
  unfold pv
  rw [pay9_apply, Finset.sum_congr rfl fun b _ => sv_apply hX c b j,
    Fin.sum_univ_eq_sum_range (fun b => ∑ k ∈ Finset.range 256, colAt X j (2048 * c.val + (256 * b + k))) 8]
  exact sum_blocks (fun n => colAt X j (2048 * c.val + n)) 256 8

/-- After looking at `n` devices the accumulator holds the sum of the rows of the earlier ones among them. -/
theorem av_apply (c : Dev nD) (j : Fin 1024) (n : ℕ) :
    av m ρ c n (ix2 (0 : Fin 1) j) = ∑ k ∈ Finset.range (2048 * min n c.val), colAt X j k := by
  induction n with
  | zero => rw [Nat.zero_min, Nat.mul_zero, Finset.sum_range_zero]; exact pay11_apply j
  | succ n ih =>
    by_cases h : n < c.val
    · have e : av m ρ c (n + 1) = accAdd (av m ρ c n) (pv m ρ ⟨n, lt_trans h c.isLt⟩) := dif_pos h
      rw [e, accAdd_apply, ih, pv_apply hX, Nat.min_eq_left (le_of_lt h), Nat.min_eq_left h, Nat.mul_succ, Finset.sum_range_add]
    · have e : av m ρ c (n + 1) = av m ρ c n := dif_neg h
      rw [e, ih, Nat.min_eq_right (by omega), Nat.min_eq_right (by omega)]

/-- The prefix row before block `n` holds the sum of the device's first `256 n` rows. -/
theorem prefv_apply (c : Dev nD) (j : Fin 1024) (n : ℕ) (hn : n ≤ 8) :
    prefv m ρ c n (ix2 (0 : Fin 1) j) = ∑ k ∈ Finset.range (256 * n), colAt X j (2048 * c.val + k) := by
  induction n with
  | zero => rw [Nat.mul_zero, Finset.sum_range_zero]; exact pay13_apply j
  | succ n ih =>
    have e : prefv m ρ c (n + 1) = k0_pay15 (prefv m ρ c n) (rowOf (sv m ρ c) ⟨n, hn⟩) := dif_pos hn
    rw [e, pay15_apply, ih (by omega), rowOf_apply, sv_apply hX, Nat.mul_succ, Finset.sum_range_add]

/-- The device's own prefix sums: row `i` sums its first `i + 1` rows. -/
theorem ov_apply (c : Dev nD) (i : Fin 2048) (j : Fin 1024) :
    ov m ρ c (ix2 i j) = ∑ k ∈ Finset.range (i.val + 1), colAt X j (2048 * c.val + k) := by
  have hi := i.isLt
  show blockOut (prefv m ρ c (i.val / 256)) (blk (xv m ρ c) ⟨i.val / 256, row_div i⟩) (ixb ⟨i.val % 256, row_mod i⟩ j) = _
  rw [ixb_eq, blockOut_apply, prefv_apply hX c j _ (by omega)]
  have e : ∀ k : Fin 256, (k0_pay12 (F := Ideal)) (ix2 (⟨i.val % 256, row_mod i⟩ : Fin 256) k) * blk (xv m ρ c) ⟨i.val / 256, row_div i⟩ (ix2 k j)
      = (fun k : ℕ => (if k ≤ i.val % 256 then (1 : EReal) else 0) * colAt X j (2048 * c.val + (256 * (i.val / 256) + k))) k.val := fun k => by
    rw [pay12_apply, blk_apply, hX]; rfl
  rw [Finset.sum_congr rfl fun k _ => e k, Fin.sum_univ_eq_sum_range
      (fun k : ℕ => (if k ≤ i.val % 256 then (1 : EReal) else 0) * colAt X j (2048 * c.val + (256 * (i.val / 256) + k))) 256,
    sum_tril 256 _ (row_mod i), add_comm, ← Finset.sum_range_add (fun n => colAt X j (2048 * c.val + n)),
    show 256 * (i.val / 256) + (i.val % 256 + 1) = i.val + 1 by omega]

/-- What device `c` returns: row `i` sums the first `2048 c + i + 1` rows of the whole array. -/
theorem outv_apply (c : Dev nD) (i : Fin 2048) (j : Fin 1024) :
    outv m ρ c (ix2 i j) = ∑ k ∈ Finset.range (2048 * c.val + i.val + 1), colAt X j k := by
  have hc : c.val < 32 := c.isLt
  unfold outv
  rw [pay60_apply, ov_apply hX, av_apply hX, Nat.min_eq_right (by omega), add_comm, Nat.add_assoc,
    Finset.sum_range_add _ (2048 * c.val) (i.val + 1)]

end Device

end Cert.Scan
-- ==== Proof.RefValue.lean ====
/- The reference's values, over the extended reals: the running sums of the whole array's columns. -/
module

public import proofs.«01_k».proof.Proof.Gen.ReferenceIdeal.Run
public import proofs.«01_k».proof.Proof.Launch
public import proofs.«01_k».proof.Proof.Value

@[expose] public section

noncomputable section

namespace Cert.Scan

open Cert.ReferenceIdeal.Gen Idealize.ShloMosaic
open scoped BigOperators

/-- The array of running sums: row `i` is the sum of rows `0` to `i`. -/
def scan (X : Vec Ideal ⟨2, ![65536, 1024]⟩ .f32) : Vec Ideal ⟨2, ![65536, 1024]⟩ .f32 :=
  fun i => ∑ k ∈ Finset.range ((i 0).val + 1), colAt X (i 1) k

/-- Position `n` of a window one column wide is in row `n`, column zero. -/
theorem window_pos {N : ℕ} (n : Fin (⟨2, ![N, 1]⟩ : Shape).numel) :
    ((⟨2, ![N, 1]⟩ : Shape).rowMajor.symm n 0).val = n.val ∧ ((⟨2, ![N, 1]⟩ : Shape).rowMajor.symm n 1).val = 0 := by
  have h1 : ((⟨2, ![N, 1]⟩ : Shape).rowMajor.symm n 1).val < 1 := ((⟨2, ![N, 1]⟩ : Shape).rowMajor.symm n 1).isLt
  have e := Shape.rowMajor_val_two ((⟨2, ![N, 1]⟩ : Shape).rowMajor.symm n)
  rw [Equiv.apply_symm_apply] at e
  change n.val = ((⟨2, ![N, 1]⟩ : Shape).rowMajor.symm n 0).val * 1 + ((⟨2, ![N, 1]⟩ : Shape).rowMajor.symm n 1).val at e
  omega

/-- A window one column wide and `N` rows high has `N` positions. -/
theorem window_numel (N : ℕ) : (⟨2, ![N, 1]⟩ : Shape).numel = N := by
  simp [Shape.numel, Fin.prod_univ_two]

/-- A window over all the rows, padded before the first row by one row less, sums at row `a` the rows up to `a`. -/
theorem window_sum {p N C : ℕ} (hN : N = p + 1) (x : (⟨2, ![N, C]⟩ : Shape).Idx → EReal) (f : ℕ → ℕ → EReal)
    (hx : ∀ (a : Fin N) (b : Fin C), x (ix2 a b) = f a.val b.val)
    (h : (⟨2, ![N, C]⟩ : Shape).ReduceWindows (![N, 1] : Fin 2 → Nat) ![1, 1] ![p, 0] ![0, 0] ⟨2, ![N, C]⟩)
    (a : Fin N) (b : Fin C) :
    Ideal.hostReduceWindowAdd ![N, 1] ![1, 1] ![p, 0] ![0, 0] h x 0 (ix2 a b) = ∑ k ∈ Finset.range (a.val + 1), f k b.val := by
  have ha := a.isLt
  have hb := b.isLt
  have hn := window_numel N
  refine (foldl_window (fun k => if p ≤ a.val + k then f (a.val + k - p) b.val else 0) _ 0 _ fun r n => ?_).trans ?_
  · obtain ⟨h0, h1⟩ := window_pos n
    have hlt : n.val < N := lt_of_lt_of_eq n.isLt hn
    refine congrArg (r + ·) ?_
    -- the window's row and column, from the position
    have inside : (∀ c : Fin 2, (![p, 0] : Fin 2 → ℕ) c ≤ (ix2 a b c).val * (![1, 1] : Fin 2 → ℕ) c + ((⟨2, ![N, 1]⟩ : Shape).rowMajor.symm n c).val
        ∧ (ix2 a b c).val * (![1, 1] : Fin 2 → ℕ) c + ((⟨2, ![N, 1]⟩ : Shape).rowMajor.symm n c).val - (![p, 0] : Fin 2 → ℕ) c
          < (⟨2, ![N, C]⟩ : Shape).size c) ↔ p ≤ a.val + n.val := by
      rw [Fin.forall_fin_two]
      show (p ≤ a.val * 1 + ((⟨2, ![N, 1]⟩ : Shape).rowMajor.symm n 0).val ∧ a.val * 1 + ((⟨2, ![N, 1]⟩ : Shape).rowMajor.symm n 0).val - p < N)
        ∧ (0 ≤ b.val * 1 + ((⟨2, ![N, 1]⟩ : Shape).rowMajor.symm n 1).val ∧ b.val * 1 + ((⟨2, ![N, 1]⟩ : Shape).rowMajor.symm n 1).val - 0 < C) ↔ _
      rw [h0, h1]; omega
    by_cases hp : p ≤ a.val + n.val
    · rw [if_pos hp]
      refine (dif_pos (inside.2 hp)).trans ?_
      refine (congrArg x (funext fun c => Fin.ext ?_)).trans (hx ⟨a.val + n.val - p, by omega⟩ b)
      match c with
      | ⟨0, _⟩ =>
        show a.val * 1 + ((⟨2, ![N, 1]⟩ : Shape).rowMajor.symm n 0).val - p = a.val + n.val - p
        rw [h0, Nat.mul_one]
      | ⟨1, _⟩ =>
        show b.val * 1 + ((⟨2, ![N, 1]⟩ : Shape).rowMajor.symm n 1).val - 0 = b.val
        rw [h1]; omega
    · rw [if_neg hp]
      exact dif_neg fun q => hp (inside.1 q)
  · rw [zero_add, show (⟨2, ![N, 1]⟩ : Shape).numel = p + 1 from hn.trans hN]
    exact sum_shift (fun k => f k b.val) p a.val (by omega)

/-- The reference's result is the array of running sums. -/
theorem reference_eq (X : Vec Ideal ⟨2, ![65536, 1024]⟩ .f32) :
    Host.reduceWindowAdd (F := Ideal) (φ := .f32) ![65536, 1] ![1, 1] ![65535, 0] ![0, 0] X
      (broadcastInDim Cert.ReferenceIdeal.S_ ![] Cert.ReferenceIdeal.Facts₀.bcast_S_S_ (constant Cert.ReferenceIdeal.S_ .f32 0x00000000#32))
      Cert.ReferenceIdeal.Facts₀.reduceWindows_S65536x1024_S65536x1024_w65536s1p65535_0_w1s1p0_0 Cert.ReferenceIdeal.Facts₀.h_S_ = scan X := by
  funext i
  obtain ⟨a, b, rfl⟩ : ∃ (a : Fin 65536) (b : Fin 1024), i = ix2 a b := ⟨i 0, i 1, eq_ix2 i⟩
  have hz : broadcastInDim Cert.ReferenceIdeal.S_ ![] Cert.ReferenceIdeal.Facts₀.bcast_S_S_
      (constant (F := Ideal) Cert.ReferenceIdeal.S_ .f32 0x00000000#32) (Shape.Idx.first Cert.ReferenceIdeal.Facts₀.h_S_) = (0 : EReal) :=
    Ideal.ofBits_zero_f32
  unfold Host.reduceWindowAdd
  rw [Ideal.hostReduceWindowAdd_def, hz]
  exact window_sum (p := 65535) (by omega) X (fun k b => if h : b < 1024 then colAt X ⟨b, h⟩ k else 0)
    (fun a b => by rw [dif_pos b.isLt]; unfold colAt; rw [dif_pos a.isLt]) _ a b |>.trans
    (Finset.sum_congr rfl fun k _ => dif_pos b.isLt)

/-! ## The two runs -/

section Runs
variable (m : (ℓ : Loc Cert.KernelIdeal.nD Cert.KernelIdeal.τ Cert.KernelIdeal.sig) → Buf (Elt Ideal) ℓ) (ρ : Dev Cert.KernelIdeal.nD → PrngReg)

/-- The first window's one block is the whole argument: reading it reads the argument. -/
theorem xv_eq (c : Dev Cert.KernelIdeal.nD) : xv m ρ c = m ((c.tc : Thread Cert.KernelIdeal.nD Cert.KernelIdeal.τ).loc Cert.KernelIdeal.main_arg0) := by
  have hz : (fun a => (Cert.KernelIdeal.win0_0.index (0 : Fin 1)) a * Cert.KernelIdeal.main_arg0.ty.shape.size a) = fun _ => 0 :=
    funext fun a => by fin_cases a <;> decide
  exact Memref.read_access_unit_zero (Elt Ideal) Cert.KernelIdeal.main_arg0 hz (fun a => by fin_cases a <;> decide) _

/-- The result array's one block reads back as what the device returns. -/
theorem finalA_block (c : Dev Cert.KernelIdeal.nD) :
    (Cert.KernelIdeal.win0_1.blk (0 : Fin 1)).view.read (Elt Ideal) (finalA m ρ c (1 : Fin 2)) = outv m ρ c := by
  unfold finalA
  rw [show Cert.KernelIdeal.cfg0.N = ((0 : Fin 1) : Fin Cert.KernelIdeal.cfg0.N).val + 1 from rfl, (dats m ρ 0 c).arrAt_succ (1 : Fin 2) (0 : Fin 1),
    show (Cert.KernelIdeal.cfg0.win (1 : Fin 2)).flush (0 : Fin 1) = true from by decide, if_pos rfl]
  exact View.read_write_univ _ _

/-- The result array ends holding what the device returns. -/
theorem finalA_out (c : Dev Cert.KernelIdeal.nD) : finalA m ρ c (1 : Fin 2) = outv m ρ c := by
  have hz : (fun a => (Cert.KernelIdeal.win0_1.index (0 : Fin 1)) a * Cert.KernelIdeal.main_v1.ty.shape.size a) = fun _ => 0 :=
    funext fun a => by fin_cases a <;> decide
  exact (Memref.read_access_unit_zero (Elt Ideal) Cert.KernelIdeal.main_v1 hz (fun a => by fin_cases a <;> decide) _).symm.trans (finalA_block m ρ c)

variable (X : Vec Ideal ⟨2, ![65536, 1024]⟩ .f32)

/-- When each device starts with its block of the array, it holds its rows of it. -/
theorem holds_of_block (h : ∀ c : Dev Cert.KernelIdeal.nD, m ((c.tc : Thread Cert.KernelIdeal.nD Cert.KernelIdeal.τ).loc Cert.KernelIdeal.main_arg0)
      = Layout.block ⟨2, ![2048, 1024]⟩ ⟨2, ![65536, 1024]⟩ 0 32 c X) : Holds m ρ X := fun c i j => by
  have hc : c.val < 32 := c.isLt
  have hi := i.isLt
  rw [xv_eq, h c]
  refine Eq.trans ?_ (dif_pos (by omega)).symm
  refine congrArg X (funext fun a => Fin.ext ?_)
  match a with
  | ⟨0, _⟩ => show c.val * 2048 + i.val = 2048 * c.val + i.val; omega
  | ⟨1, _⟩ => rfl

/-- Then it returns its block of the running sums. -/
theorem outv_block (hX : Holds m ρ X) (c : Dev Cert.KernelIdeal.nD) :
    outv m ρ c = Layout.block ⟨2, ![2048, 1024]⟩ ⟨2, ![65536, 1024]⟩ 0 32 c (scan X) := by
  funext i
  obtain ⟨a, b, rfl⟩ : ∃ (a : Fin 2048) (b : Fin 1024), i = ix2 a b := ⟨i 0, i 1, eq_ix2 i⟩
  rw [outv_apply hX]
  show _ = ∑ k ∈ Finset.range (c.val * 2048 + a.val + 1), colAt X b k
  rw [Nat.mul_comm]

end Runs

end Cert.Scan
-- ==== Proof.lean ====
/- The five claims of proof/Defs.lean. The run of the kernel is proved once, for any float values, over the text of its
   idealization (Proof/Launch.lean); the kernel's own text is the same (Proof/Same.lean). The values are read off in
   Proof/Value.lean (the kernel) and Proof/RefValue.lean (the reference, and the two runs together). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Same
public import proofs.«01_k».proof.Proof.Launch
public import proofs.«01_k».proof.Proof.RefValue
public import Idealize.ShloMosaic.Adequacy
public import Idealize.ShloMosaic.Init

@[expose] public section

noncomputable section

namespace Cert.Proof

open Idealize.ShloMosaic Idealize.ShloMosaic.TcCoe Idealize.SL.Sem

/-- For any float values, the program runs to the end with its argument unchanged and every semaphore at zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0) :=
  (θ_run Cert.KernelIdeal.defs _ _).mono
    (fun _ h => ⟨fun c => (h.1 c (0 : Fin 2)).trans (Cert.Scan.finalA_x m ρ c), h.2⟩) (Cert.Scan.run_main m ρ)

/-- So does the kernel, read at the machine's float values: its text is that of the program the run is written for. -/
theorem frame_kernel : Cert.quiescent_Kernel := fun m ρ _ => by
  have h := frame_any (F := Bits) m ρ
  rw [← Cert.Scan.same_defs, ← Cert.Scan.same_main] at h
  exact h

/-- So does its idealization, read at the extended reals. -/
theorem frame_ideal : Cert.quiescent_KernelIdeal := fun m ρ _ => frame_any (F := Ideal) m ρ

/-- The reference runs to the end with its argument unchanged; it has no semaphore. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

/-- Over the extended reals, started from the blocks of the reference's argument, every device ends with its block of the
    reference's result: the running sums of the whole array. Both arguments are unchanged. -/
theorem algebraic : Cert.algebraic_KernelIdeal_ReferenceIdeal := fun m g m' g' _ hag =>
  ⟨Cert.Scan.scan _,
    (θ_run Cert.KernelIdeal.defs _ _).mono
      (fun _ h c => ⟨(h.1 c (1 : Fin 2)).trans ((Cert.Scan.finalA_out m g c).trans
          (Cert.Scan.outv_block m g _ (Cert.Scan.holds_of_block m g _ hag) c)),
        (h.1 c (0 : Fin 2)).trans (Cert.Scan.finalA_x m g c)⟩)
      (Cert.Scan.run_main m g),
    (θ_run Cert.ReferenceIdeal.defs _ _).mono
      (fun _ h => ⟨((h 0).1).trans (Cert.Scan.reference_eq _), (h 0).2⟩) (Cert.ReferenceIdeal.Value.run (F := Ideal) m' g')⟩

/-- All five claims. -/
theorem claim : Cert.Claim := ⟨Cert.Kernel.Gen.facts, Cert.KernelIdeal.Gen.facts, Cert.ReferenceIdeal.Gen.facts,
  frame_kernel, frame_ideal, frame_reference, trivial, algebraic⟩

end Cert.Proof

end
